-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S1x2x256 Cert.KernelIdeal.S1x1x256
  ∧ IdealRules.bf16_pair.Statement Cert.KernelIdeal.S8x256 Cert.KernelIdeal.S4x256

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16x512x1536 : Shape := ⟨3, ![16, 512, 1536]⟩
abbrev S768x2x8960 : Shape := ⟨3, ![768, 2, 8960]⟩
abbrev S96x2x8960 : Shape := ⟨3, ![96, 2, 8960]⟩
abbrev S140x768x128 : Shape := ⟨3, ![140, 768, 128]⟩
abbrev S2x768x8960 : Shape := ⟨3, ![2, 768, 8960]⟩
abbrev S_ : Shape := ⟨0, ![]⟩
abbrev S2x768x1x8960 : Shape := ⟨4, ![2, 768, 1, 8960]⟩
abbrev S2x768x2x8960 : Shape := ⟨4, ![2, 768, 2, 8960]⟩
abbrev S2x96x16x8960 : Shape := ⟨4, ![2, 96, 16, 8960]⟩
abbrev S2x96x8960 : Shape := ⟨3, ![2, 96, 8960]⟩
abbrev S2x96x1x8960 : Shape := ⟨4, ![2, 96, 1, 8960]⟩
abbrev S2x1536x8960 : Shape := ⟨3, ![2, 1536, 8960]⟩
abbrev S140x768x128x2 : Shape := ⟨4, ![140, 768, 128, 2]⟩
abbrev S2x70x768x128x2 : Shape := ⟨5, ![2, 70, 768, 128, 2]⟩
abbrev S2x768x2x70x128 : Shape := ⟨5, ![2, 768, 2, 70, 128]⟩
abbrev S1x1536x8960 : Shape := ⟨3, ![1, 1536, 8960]⟩
abbrev S1536x8960 : Shape := ⟨2, ![1536, 8960]⟩
abbrev S16x512x8960 : Shape := ⟨3, ![16, 512, 8960]⟩

class Facts : Prop where
  transposes_S768x2x8960_S2x768x8960_1_0_2 : S768x2x8960.Transposes [1, 0, 2] S2x768x8960
  natLt_8_32 : 8 < 32
  bcast_S_S2x768x8960 : S_.BroadcastsInDim S2x768x8960 (![] : Fin 0 → Fin S2x768x8960.rank)
  bcast_S2x768x8960_S2x768x1x8960_0_1_3 : S2x768x8960.BroadcastsInDim S2x768x1x8960 (![0, 1, 3] : Fin 3 → Fin S2x768x1x8960.rank)
  concatenates_S2x768x1x8960_S2x768x1x8960_S2x768x2x8960_d2 : Shape.Concatenates [S2x768x1x8960, S2x768x1x8960] S2x768x2x8960 2
  shapeCasts_S2x768x2x8960_S2x96x16x8960 : S2x768x2x8960.ShapeCasts S2x96x16x8960
  transposes_S96x2x8960_S2x96x8960_1_0_2 : S96x2x8960.Transposes [1, 0, 2] S2x96x8960
  bcast_S2x96x8960_S2x96x1x8960_0_1_3 : S2x96x8960.BroadcastsInDim S2x96x1x8960 (![0, 1, 3] : Fin 3 → Fin S2x96x1x8960.rank)
  bcast_S2x96x1x8960_S2x96x16x8960_0_1_2_3 : S2x96x1x8960.BroadcastsInDim S2x96x16x8960 (![0, 1, 2, 3] : Fin 4 → Fin S2x96x16x8960.rank)
  shapeCasts_S2x96x16x8960_S2x1536x8960 : S2x96x16x8960.ShapeCasts S2x1536x8960
  splits_S140x768x128_w32_S140x768x128x2_w16 : S140x768x128.SplitsWords 32 S140x768x128x2 16
  shapeCasts_S140x768x128x2_S2x70x768x128x2 : S140x768x128x2.ShapeCasts S2x70x768x128x2
  transposes_S2x70x768x128x2_S2x768x2x70x128_0_2_4_1_3 : S2x70x768x128x2.Transposes [0, 2, 4, 1, 3] S2x768x2x70x128
  shapeCasts_S2x768x2x70x128_S2x1536x8960 : S2x768x2x70x128.ShapeCasts S2x1536x8960
  slices_S2x1536x8960_S1x1536x8960_0_0_0 : S2x1536x8960.Slices ![0, 0, 0] S1x1536x8960
  shapeCasts_S1x1536x8960_S1536x8960 : S1x1536x8960.ShapeCasts S1536x8960
  slices_S2x1536x8960_S1x1536x8960_1_0_0 : S2x1536x8960.Slices ![1, 0, 0] S1x1536x8960
  bcast_S_S16x512x8960 : S_.BroadcastsInDim S16x512x8960 (![] : Fin 0 → Fin S16x512x8960.rank)
  bcast_S_S96x2x8960 : S_.BroadcastsInDim S96x2x8960 (![] : Fin 0 → Fin S96x2x8960.rank)
  reducesTo_S96x2x8960_S_d0_1_2 : S96x2x8960.ReducesTo [0, 1, 2] S_
  h_S_ : 0 < S_.numel
  reducesTo_S16x512x8960_S_d0_1_2 : S16x512x8960.ReducesTo [0, 1, 2] S_
  dot_S16x512x1536_S1536x8960_S16x512x8960_2_0_01_1_n_n_wf : DotDims.WF S16x512x1536 S1536x8960 S16x512x8960 [2] [0] [0, 1] [1] [] []

variable [Facts]

def dot_S16x512x1536_S1536x8960_S16x512x8960_2_0_01_1_n_n : DotDims S16x512x1536 S1536x8960 S16x512x8960 where
  lhsContracting := [2]
  rhsContracting := [0]
  lhsNonContracting := [0, 1]
  rhsNonContracting := [1]
  lhsBatch := []
  rhsBatch := []
  wf := dot_S16x512x1536_S1536x8960_S16x512x8960_2_0_01_1_n_n_wf
def fn_silu {F : FTy → Type} [FloatOps F] (arg0 : FVec F S16x512x8960 .f32) : FVec F S16x512x8960 .f32 :=
  let v0 : FVec F S16x512x8960 .f32 := Host.negf arg0
  let v1 : FVec F S16x512x8960 .f32 := Host.exp v0
  let cst : FVec F S_ .f32 := constant S_ .f32 0x3F800000#32
  let v2 : FVec F S16x512x8960 .f32 := broadcastInDim S16x512x8960 ![] bcast_S_S16x512x8960 cst
  let v3 : FVec F S16x512x8960 .f32 := addf v2 v1
  let cst_0 : FVec F S_ .f32 := constant S_ .f32 0x3F800000#32
  let v4 : FVec F S16x512x8960 .f32 := broadcastInDim S16x512x8960 ![] bcast_S_S16x512x8960 cst_0
  let v5 : FVec F S16x512x8960 .f32 := Host.divf v4 v3
  let v6 : FVec F S16x512x8960 .f32 := mulf arg0 v5
  v6

def fn_part2 {F : FTy → Type} [FloatOps F] (main_v38 : IVec S_ 1) (main_v41 : IVec S16x512x8960 1) (main_c_3 : IVec S_ 1) : IVec S_ 1 :=
  let main_v42 : IVec S_ 1 := (fun x v => Host.reduce IntOp.andi x v reducesTo_S16x512x8960_S_d0_1_2 h_S_) main_v41 main_c_3
  let main_v43 : IVec S_ 1 := andi main_v38 main_v42
  main_v43

def fn_part1 {F : FTy → Type} [FloatOps F] (main_arg0 : FVec F S16x512x1536 .bf16) (main_arg3 : IVec S96x2x8960 8) (main_arg4 : IVec S140x768x128 32) (main_v21 : FVec F S2x1536x8960 .bf16) : IVec S_ 1 :=
  let main_v22 : FVec F S140x768x128x2 .bf16 := (fun x => bitcastToFloat .bf16 (Host.bitcastConvertNarrow S140x768x128x2 16 x splits_S140x768x128_w32_S140x768x128x2_w16)) main_arg4
  let main_v23 : FVec F S2x70x768x128x2 .bf16 := shapeCast S2x70x768x128x2 main_v22 shapeCasts_S140x768x128x2_S2x70x768x128x2
  let main_v24 : FVec F S2x768x2x70x128 .bf16 := (transpose S2x768x2x70x128 [0, 2, 4, 1, 3] · transposes_S2x70x768x128x2_S2x768x2x70x128_0_2_4_1_3) main_v23
  let main_v25 : FVec F S2x1536x8960 .bf16 := shapeCast S2x1536x8960 main_v24 shapeCasts_S2x768x2x70x128_S2x1536x8960
  let main_v26 : FVec F S2x1536x8960 .bf16 := addf main_v21 main_v25
  let main_v27 : FVec F S1x1536x8960 .bf16 := (extractStridedSlice S1x1536x8960 ![0, 0, 0] · slices_S2x1536x8960_S1x1536x8960_0_0_0) main_v26
  let main_v28 : FVec F S1536x8960 .bf16 := shapeCast S1536x8960 main_v27 shapeCasts_S1x1536x8960_S1536x8960
  let main_v29 : FVec F S16x512x8960 .f32 := (fun l r => Host.dotGeneral dot_S16x512x1536_S1536x8960_S16x512x8960_2_0_01_1_n_n none l r) main_arg0 main_v28
  let main_v30 : FVec F S1x1536x8960 .bf16 := (extractStridedSlice S1x1536x8960 ![1, 0, 0] · slices_S2x1536x8960_S1x1536x8960_1_0_0) main_v26
  let main_v31 : FVec F S1536x8960 .bf16 := shapeCast S1536x8960 main_v30 shapeCasts_S1x1536x8960_S1536x8960
  let main_v32 : FVec F S16x512x8960 .f32 := (fun l r => Host.dotGeneral dot_S16x512x1536_S1536x8960_S16x512x8960_2_0_01_1_n_n none l r) main_arg0 main_v31
  let main_v33 : FVec F S16x512x8960 .f32 := fn_silu (F := F) main_v29
  let main_v34 : FVec F S16x512x8960 .f32 := mulf main_v33 main_v32
  let main_v35 : IVec S96x2x8960 32 := (extui 32 · natLt_8_32) main_arg3
  let main_c_1 : IVec S_ 32 := constantI S_ 32 128#32
  let main_v36 : IVec S96x2x8960 32 := broadcastInDim S96x2x8960 ![] bcast_S_S96x2x8960 main_c_1
  let main_v37 : IVec S96x2x8960 1 := cmpi .sle main_v35 main_v36
  let main_c_2 : IVec S_ 1 := constantI S_ 1 1#1
  let main_v38 : IVec S_ 1 := (fun x v => Host.reduce IntOp.andi x v reducesTo_S96x2x8960_S_d0_1_2 h_S_) main_v37 main_c_2
  let main_v39 : FVec F S16x512x8960 .f32 := Host.absf main_v34
  let main_cst : FVec F S_ .f32 := constant S_ .f32 0x7F7FFFFF#32
  let main_v40 : FVec F S16x512x8960 .f32 := broadcastInDim S16x512x8960 ![] bcast_S_S16x512x8960 main_cst
  let main_v41 : IVec S16x512x8960 1 := cmpf .ole main_v39 main_v40
  let main_c_3 : IVec S_ 1 := constantI S_ 1 1#1
  fn_part2 (F := F) main_v38 main_v41 main_c_3

def fn {F : FTy → Type} [FloatOps F] (main_arg0 : FVec F S16x512x1536 .bf16) (main_arg1 : IVec S768x2x8960 8) (main_arg2 : FVec F S96x2x8960 .bf16) (main_arg3 : IVec S96x2x8960 8) (main_arg4 : IVec S140x768x128 32) : IVec S_ 1 :=
  let main_v0 : IVec S2x768x8960 8 := (transpose S2x768x8960 [1, 0, 2] · transposes_S768x2x8960_S2x768x8960_1_0_2) main_arg1
  let main_v1 : IVec S2x768x8960 32 := (extui 32 · natLt_8_32) main_v0
  let main_c : IVec S_ 32 := constantI S_ 32 15#32
  let main_v2 : IVec S2x768x8960 32 := broadcastInDim S2x768x8960 ![] bcast_S_S2x768x8960 main_c
  let main_v3 : IVec S2x768x8960 32 := andi main_v1 main_v2
  let main_c_0 : IVec S_ 32 := constantI S_ 32 4#32
  let main_v4 : IVec S2x768x8960 32 := broadcastInDim S2x768x8960 ![] bcast_S_S2x768x8960 main_c_0
  let main_v5 : IVec S2x768x8960 32 := Host.shrsi main_v1 main_v4
  let main_v6 : IVec S2x768x1x8960 32 := broadcastInDim S2x768x1x8960 ![0, 1, 3] bcast_S2x768x8960_S2x768x1x8960_0_1_3 main_v3
  let main_v7 : IVec S2x768x1x8960 32 := broadcastInDim S2x768x1x8960 ![0, 1, 3] bcast_S2x768x8960_S2x768x1x8960_0_1_3 main_v5
  let main_v8 : IVec S2x768x2x8960 32 := (fun a b => concatenate S2x768x2x8960 2 [⟨S2x768x1x8960, a⟩, ⟨S2x768x1x8960, b⟩] concatenates_S2x768x1x8960_S2x768x1x8960_S2x768x2x8960_d2) main_v6 main_v7
  let main_v9 : IVec S2x96x16x8960 32 := shapeCast S2x96x16x8960 main_v8 shapeCasts_S2x768x2x8960_S2x96x16x8960
  let main_v10 : FVec F S2x96x8960 .bf16 := (transpose S2x96x8960 [1, 0, 2] · transposes_S96x2x8960_S2x96x8960_1_0_2) main_arg2
  let main_v11 : FVec F S2x96x1x8960 .bf16 := broadcastInDim S2x96x1x8960 ![0, 1, 3] bcast_S2x96x8960_S2x96x1x8960_0_1_3 main_v10
  let main_v12 : IVec S2x96x8960 8 := (transpose S2x96x8960 [1, 0, 2] · transposes_S96x2x8960_S2x96x8960_1_0_2) main_arg3
  let main_v13 : IVec S2x96x8960 32 := (extui 32 · natLt_8_32) main_v12
  let main_v14 : FVec F S2x96x8960 .bf16 := sitofp .bf16 main_v13
  let main_v15 : FVec F S2x96x1x8960 .bf16 := broadcastInDim S2x96x1x8960 ![0, 1, 3] bcast_S2x96x8960_S2x96x1x8960_0_1_3 main_v14
  let main_v16 : FVec F S2x96x16x8960 .bf16 := sitofp .bf16 main_v9
  let main_v17 : FVec F S2x96x16x8960 .bf16 := broadcastInDim S2x96x16x8960 ![0, 1, 2, 3] bcast_S2x96x1x8960_S2x96x16x8960_0_1_2_3 main_v15
  let main_v18 : FVec F S2x96x16x8960 .bf16 := subf main_v16 main_v17
  let main_v19 : FVec F S2x96x16x8960 .bf16 := broadcastInDim S2x96x16x8960 ![0, 1, 2, 3] bcast_S2x96x1x8960_S2x96x16x8960_0_1_2_3 main_v11
  let main_v20 : FVec F S2x96x16x8960 .bf16 := mulf main_v18 main_v19
  let main_v21 : FVec F S2x1536x8960 .bf16 := shapeCast S2x1536x8960 main_v20 shapeCasts_S2x96x16x8960_S2x1536x8960
  fn_part1 (F := F) main_arg0 main_arg3 main_arg4 main_v21
-- ==== Kernel.lean ====
abbrev S16x512x1536 : Shape := ⟨3, ![16, 512, 1536]⟩
abbrev S768x2x8960 : Shape := ⟨3, ![768, 2, 8960]⟩
abbrev S96x2x8960 : Shape := ⟨3, ![96, 2, 8960]⟩
abbrev S140x768x128 : Shape := ⟨3, ![140, 768, 128]⟩
abbrev S8192x1536 : Shape := ⟨2, ![8192, 1536]⟩
abbrev S2x768x8960 : Shape := ⟨3, ![2, 768, 8960]⟩
abbrev S2x96x8960 : Shape := ⟨3, ![2, 96, 8960]⟩
abbrev S8192x8960 : Shape := ⟨2, ![8192, 8960]⟩
abbrev S70x2x4x8x128 : Shape := ⟨5, ![70, 2, 4, 8, 128]⟩
abbrev S2x768x256 : Shape := ⟨3, ![2, 768, 256]⟩
abbrev S96x2x256 : Shape := ⟨3, ![96, 2, 256]⟩
abbrev S2x96x256 : Shape := ⟨3, ![2, 96, 256]⟩
abbrev S2x768x128 : Shape := ⟨3, ![2, 768, 128]⟩
abbrev S1024x256 : Shape := ⟨2, ![1024, 256]⟩
abbrev S2x2x4x8x128 : Shape := ⟨5, ![2, 2, 4, 8, 128]⟩
abbrev S1536x512 : Shape := ⟨2, ![1536, 512]⟩
abbrev S1x32x256 : Shape := ⟨3, ![1, 32, 256]⟩
abbrev S32x256 : Shape := ⟨2, ![32, 256]⟩
abbrev S8x256 : Shape := ⟨2, ![8, 256]⟩
abbrev S1x256 : Shape := ⟨2, ![1, 256]⟩
abbrev S96x1x256 : Shape := ⟨3, ![96, 1, 256]⟩
abbrev S1x1x256 : Shape := ⟨3, ![1, 1, 256]⟩
abbrev S1x2x256 : Shape := ⟨3, ![1, 2, 256]⟩
abbrev S4x256 : Shape := ⟨2, ![4, 256]⟩
abbrev S16x256 : Shape := ⟨2, ![16, 256]⟩
abbrev S1x8x128 : Shape := ⟨3, ![1, 8, 128]⟩
abbrev S8x128 : Shape := ⟨2, ![8, 128]⟩
abbrev S16x128 : Shape := ⟨2, ![16, 128]⟩
abbrev S128x128 : Shape := ⟨2, ![128, 128]⟩
abbrev S256x1536 : Shape := ⟨2, ![256, 1536]⟩
abbrev S256x512 : Shape := ⟨2, ![256, 512]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S128 : Shape := ⟨1, ![128]⟩
abbrev S1x128 : Shape := ⟨2, ![1, 128]⟩
abbrev S1x1x1x1x128 : Shape := ⟨5, ![1, 1, 1, 1, 128]⟩

abbrev nBuf : Space → Nat
  | .hbm => 10
  | .vmem => 16
  | .smem => 0
  | _ => 0

abbrev bufTy : (tb : Table) → Fin (tcTables nBuf tb) → BufTy
  | .hbm, ⟨0, _⟩ => ⟨S16x512x1536, .bf16⟩
  | .hbm, ⟨1, _⟩ => ⟨S768x2x8960, .i8⟩
  | .hbm, ⟨2, _⟩ => ⟨S96x2x8960, .bf16⟩
  | .hbm, ⟨3, _⟩ => ⟨S96x2x8960, .i8⟩
  | .hbm, ⟨4, _⟩ => ⟨S140x768x128, .i32⟩
  | .hbm, ⟨5, _⟩ => ⟨S8192x1536, .bf16⟩
  | .hbm, ⟨6, _⟩ => ⟨S2x768x8960, .i8⟩
  | .hbm, ⟨7, _⟩ => ⟨S2x96x8960, .i8⟩
  | .hbm, ⟨8, _⟩ => ⟨S8192x8960, .fp8e4m3⟩
  | .hbm, ⟨9, _⟩ => ⟨S70x2x4x8x128, .f32⟩
  | .local _ .vmem, ⟨0, _⟩ => ⟨S8192x1536, .bf16⟩
  | .local _ .vmem, ⟨1, _⟩ => ⟨S2x768x256, .i8⟩
  | .local _ .vmem, ⟨2, _⟩ => ⟨S2x768x256, .i8⟩
  | .local _ .vmem, ⟨3, _⟩ => ⟨S96x2x256, .bf16⟩
  | .local _ .vmem, ⟨4, _⟩ => ⟨S96x2x256, .bf16⟩
  | .local _ .vmem, ⟨5, _⟩ => ⟨S2x96x256, .i8⟩
  | .local _ .vmem, ⟨6, _⟩ => ⟨S2x96x256, .i8⟩
  | .local _ .vmem, ⟨7, _⟩ => ⟨S2x768x128, .i32⟩
  | .local _ .vmem, ⟨8, _⟩ => ⟨S2x768x128, .i32⟩
  | .local _ .vmem, ⟨9, _⟩ => ⟨S2x768x128, .i32⟩
  | .local _ .vmem, ⟨10, _⟩ => ⟨S2x768x128, .i32⟩
  | .local _ .vmem, ⟨11, _⟩ => ⟨S1024x256, .fp8e4m3⟩
  | .local _ .vmem, ⟨12, _⟩ => ⟨S1024x256, .fp8e4m3⟩
  | .local _ .vmem, ⟨13, _⟩ => ⟨S2x2x4x8x128, .f32⟩
  | .local _ .vmem, ⟨14, _⟩ => ⟨S2x2x4x8x128, .f32⟩
  | .local _ .vmem, ⟨15, _⟩ => ⟨S1536x512, .bf16⟩
  | _, _ => ⟨S16x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![35, 8], ![false, false]⟩

def k0_off1 (i : grid0.Coords) (c0_i32_1 : BitVec 32) : Fin 2 → Nat :=
  let arg1 : BitVec 32 := BitVec.ofNat 32 (i 1).val
  let c1024_i32 : BitVec 32 := 1024#32
  let v6 : BitVec 32 := Scalar.muli arg1 c1024_i32
  let v7 : BitVec 32 := Scalar.addi v6 c0_i32_1
  let v8 : Index := Scalar.indexCast v7
  let c0 : Index := 0#32
  ![v8.toNat, 0]
def k0_off2 (i : grid0.Coords) (c0_i32_15 : BitVec 32) : Fin 5 → Nat :=
  let c0_29 : Index := 0#32
  let arg1 : BitVec 32 := BitVec.ofNat 32 (i 1).val
  let c2_i32 : BitVec 32 := 2#32
  let v93 : BitVec 32 := Scalar.muli arg1 c2_i32
  let v94 : BitVec 32 := Scalar.addi v93 c0_i32_15
  let c0_i32_18 : BitVec 32 := 0#32
  let v100 : BitVec 1 := Scalar.cmpi .sgt v94 c0_i32_18
  let v101 : BitVec 32 := Scalar.extui v100
  let c0_i32_19 : BitVec 32 := 0#32
  let v102 : BitVec 1 := Scalar.cmpi .slt v94 c0_i32_19
  let v103 : BitVec 32 := Scalar.extui v102
  let v104 : BitVec 32 := Scalar.subi v101 v103
  let c8_i32 : BitVec 32 := 8#32
  let c0_i32_20 : BitVec 32 := 0#32
  let v105 : BitVec 1 := Scalar.cmpi .sgt c8_i32 c0_i32_20
  let v106 : BitVec 32 := Scalar.extui v105
  let c0_i32_21 : BitVec 32 := 0#32
  let v107 : BitVec 1 := Scalar.cmpi .slt c8_i32 c0_i32_21
  let v108 : BitVec 32 := Scalar.extui v107
  let v109 : BitVec 32 := Scalar.subi v106 v108
  let v110 : BitVec 1 := Scalar.cmpi .ne v104 v109
  let v111 : BitVec 32 := Scalar.remsi v94 c8_i32
  let c0_i32_22 : BitVec 32 := 0#32
  let v112 : BitVec 1 := Scalar.cmpi .ne v111 c0_i32_22
  let v113 : BitVec 1 := Scalar.andi v110 v112
  let v99 : BitVec 32 := Scalar.divsi v94 c8_i32
  let c1_i32 : BitVec 32 := 1#32
  let v114 : BitVec 32 := Scalar.subi v99 c1_i32
  let v115 : BitVec 32 := Scalar.select v113 v114 v99
  let v126 : Index := Scalar.indexCast v115
  let c0_30 : Index := 0#32
  let c8_i32_23 : BitVec 32 := 8#32
  let c0_i32_24 : BitVec 32 := 0#32
  let v116 : BitVec 1 := Scalar.cmpi .eq c8_i32_23 c0_i32_24
  let c1_i32_25 : BitVec 32 := 1#32
  let v117 : BitVec 32 := Scalar.select v116 c1_i32_25 c8_i32_23
  let v118 : BitVec 32 := Scalar.remsi v94 v117
  let c0_i32_27 : BitVec 32 := 0#32
  let v120 : BitVec 1 := Scalar.cmpi .slt v118 c0_i32_27
  let c0_i32_28 : BitVec 32 := 0#32
  let v121 : BitVec 1 := Scalar.cmpi .slt v117 c0_i32_28
  let v122 : BitVec 1 := Scalar.xori v120 v121
  let c0_i32_26 : BitVec 32 := 0#32
  let v119 : BitVec 1 := Scalar.cmpi .ne v118 c0_i32_26
  let v123 : BitVec 1 := Scalar.andi v122 v119
  let v124 : BitVec 32 := Scalar.addi v118 v117
  let v125 : BitVec 32 := Scalar.select v123 v124 v118
  let v127 : Index := Scalar.indexCast v125
  let c0_31 : Index := 0#32
  ![0, v126.toNat, 0, v127.toNat, 0]
def k0_off3 (i : grid0.Coords) (c0_i32_33 : BitVec 32) : Fin 5 → Nat :=
  let c0_49 : Index := 0#32
  let arg1 : BitVec 32 := BitVec.ofNat 32 (i 1).val
  let c2_i32_32 : BitVec 32 := 2#32
  let v134 : BitVec 32 := Scalar.muli arg1 c2_i32_32
  let v135 : BitVec 32 := Scalar.addi v134 c0_i32_33
  let c0_i32_37 : BitVec 32 := 0#32
  let v141 : BitVec 1 := Scalar.cmpi .sgt v135 c0_i32_37
  let v142 : BitVec 32 := Scalar.extui v141
  let c0_i32_38 : BitVec 32 := 0#32
  let v143 : BitVec 1 := Scalar.cmpi .slt v135 c0_i32_38
  let v144 : BitVec 32 := Scalar.extui v143
  let v145 : BitVec 32 := Scalar.subi v142 v144
  let c8_i32_36 : BitVec 32 := 8#32
  let c0_i32_39 : BitVec 32 := 0#32
  let v146 : BitVec 1 := Scalar.cmpi .sgt c8_i32_36 c0_i32_39
  let v147 : BitVec 32 := Scalar.extui v146
  let c0_i32_40 : BitVec 32 := 0#32
  let v148 : BitVec 1 := Scalar.cmpi .slt c8_i32_36 c0_i32_40
  let v149 : BitVec 32 := Scalar.extui v148
  let v150 : BitVec 32 := Scalar.subi v147 v149
  let v151 : BitVec 1 := Scalar.cmpi .ne v145 v150
  let v152 : BitVec 32 := Scalar.remsi v135 c8_i32_36
  let c0_i32_41 : BitVec 32 := 0#32
  let v153 : BitVec 1 := Scalar.cmpi .ne v152 c0_i32_41
  let v154 : BitVec 1 := Scalar.andi v151 v153
  let v140 : BitVec 32 := Scalar.divsi v135 c8_i32_36
  let c1_i32_42 : BitVec 32 := 1#32
  let v155 : BitVec 32 := Scalar.subi v140 c1_i32_42
  let v156 : BitVec 32 := Scalar.select v154 v155 v140
  let v167 : Index := Scalar.indexCast v156
  let c1 : Index := 1#32
  let c8_i32_43 : BitVec 32 := 8#32
  let c0_i32_44 : BitVec 32 := 0#32
  let v157 : BitVec 1 := Scalar.cmpi .eq c8_i32_43 c0_i32_44
  let c1_i32_45 : BitVec 32 := 1#32
  let v158 : BitVec 32 := Scalar.select v157 c1_i32_45 c8_i32_43
  let v159 : BitVec 32 := Scalar.remsi v135 v158
  let c0_i32_47 : BitVec 32 := 0#32
  let v161 : BitVec 1 := Scalar.cmpi .slt v159 c0_i32_47
  let c0_i32_48 : BitVec 32 := 0#32
  let v162 : BitVec 1 := Scalar.cmpi .slt v158 c0_i32_48
  let v163 : BitVec 1 := Scalar.xori v161 v162
  let c0_i32_46 : BitVec 32 := 0#32
  let v160 : BitVec 1 := Scalar.cmpi .ne v159 c0_i32_46
  let v164 : BitVec 1 := Scalar.andi v163 v160
  let v165 : BitVec 32 := Scalar.addi v159 v158
  let v166 : BitVec 32 := Scalar.select v164 v165 v159
  let v168 : Index := Scalar.indexCast v166
  let c0_50 : Index := 0#32
  ![0, v167.toNat, 1, v168.toNat, 0]
def k0_off4 (i : grid0.Coords) (c0_i32_71 : BitVec 32) : Fin 5 → Nat :=
  let c1_87 : Index := 1#32
  let arg1 : BitVec 32 := BitVec.ofNat 32 (i 1).val
  let c2_i32_70 : BitVec 32 := 2#32
  let v243 : BitVec 32 := Scalar.muli arg1 c2_i32_70
  let v244 : BitVec 32 := Scalar.addi v243 c0_i32_71
  let c0_i32_75 : BitVec 32 := 0#32
  let v250 : BitVec 1 := Scalar.cmpi .sgt v244 c0_i32_75
  let v251 : BitVec 32 := Scalar.extui v250
  let c0_i32_76 : BitVec 32 := 0#32
  let v252 : BitVec 1 := Scalar.cmpi .slt v244 c0_i32_76
  let v253 : BitVec 32 := Scalar.extui v252
  let v254 : BitVec 32 := Scalar.subi v251 v253
  let c8_i32_74 : BitVec 32 := 8#32
  let c0_i32_77 : BitVec 32 := 0#32
  let v255 : BitVec 1 := Scalar.cmpi .sgt c8_i32_74 c0_i32_77
  let v256 : BitVec 32 := Scalar.extui v255
  let c0_i32_78 : BitVec 32 := 0#32
  let v257 : BitVec 1 := Scalar.cmpi .slt c8_i32_74 c0_i32_78
  let v258 : BitVec 32 := Scalar.extui v257
  let v259 : BitVec 32 := Scalar.subi v256 v258
  let v260 : BitVec 1 := Scalar.cmpi .ne v254 v259
  let v261 : BitVec 32 := Scalar.remsi v244 c8_i32_74
  let c0_i32_79 : BitVec 32 := 0#32
  let v262 : BitVec 1 := Scalar.cmpi .ne v261 c0_i32_79
  let v263 : BitVec 1 := Scalar.andi v260 v262
  let v249 : BitVec 32 := Scalar.divsi v244 c8_i32_74
  let c1_i32_80 : BitVec 32 := 1#32
  let v264 : BitVec 32 := Scalar.subi v249 c1_i32_80
  let v265 : BitVec 32 := Scalar.select v263 v264 v249
  let v276 : Index := Scalar.indexCast v265
  let c0_88 : Index := 0#32
  let c8_i32_81 : BitVec 32 := 8#32
  let c0_i32_82 : BitVec 32 := 0#32
  let v266 : BitVec 1 := Scalar.cmpi .eq c8_i32_81 c0_i32_82
  let c1_i32_83 : BitVec 32 := 1#32
  let v267 : BitVec 32 := Scalar.select v266 c1_i32_83 c8_i32_81
  let v268 : BitVec 32 := Scalar.remsi v244 v267
  let c0_i32_85 : BitVec 32 := 0#32
  let v270 : BitVec 1 := Scalar.cmpi .slt v268 c0_i32_85
  let c0_i32_86 : BitVec 32 := 0#32
  let v271 : BitVec 1 := Scalar.cmpi .slt v267 c0_i32_86
  let v272 : BitVec 1 := Scalar.xori v270 v271
  let c0_i32_84 : BitVec 32 := 0#32
  let v269 : BitVec 1 := Scalar.cmpi .ne v268 c0_i32_84
  let v273 : BitVec 1 := Scalar.andi v272 v269
  let v274 : BitVec 32 := Scalar.addi v268 v267
  let v275 : BitVec 32 := Scalar.select v273 v274 v268
  let v277 : Index := Scalar.indexCast v275
  let c0_89 : Index := 0#32
  ![1, v276.toNat, 0, v277.toNat, 0]
def k0_off5 (i : grid0.Coords) (c0_i32_91 : BitVec 32) : Fin 5 → Nat :=
  let c1_107 : Index := 1#32
  let arg1 : BitVec 32 := BitVec.ofNat 32 (i 1).val
  let c2_i32_90 : BitVec 32 := 2#32
  let v284 : BitVec 32 := Scalar.muli arg1 c2_i32_90
  let v285 : BitVec 32 := Scalar.addi v284 c0_i32_91
  let c0_i32_95 : BitVec 32 := 0#32
  let v291 : BitVec 1 := Scalar.cmpi .sgt v285 c0_i32_95
  let v292 : BitVec 32 := Scalar.extui v291
  let c0_i32_96 : BitVec 32 := 0#32
  let v293 : BitVec 1 := Scalar.cmpi .slt v285 c0_i32_96
  let v294 : BitVec 32 := Scalar.extui v293
  let v295 : BitVec 32 := Scalar.subi v292 v294
  let c8_i32_94 : BitVec 32 := 8#32
  let c0_i32_97 : BitVec 32 := 0#32
  let v296 : BitVec 1 := Scalar.cmpi .sgt c8_i32_94 c0_i32_97
  let v297 : BitVec 32 := Scalar.extui v296
  let c0_i32_98 : BitVec 32 := 0#32
  let v298 : BitVec 1 := Scalar.cmpi .slt c8_i32_94 c0_i32_98
  let v299 : BitVec 32 := Scalar.extui v298
  let v300 : BitVec 32 := Scalar.subi v297 v299
  let v301 : BitVec 1 := Scalar.cmpi .ne v295 v300
  let v302 : BitVec 32 := Scalar.remsi v285 c8_i32_94
  let c0_i32_99 : BitVec 32 := 0#32
  let v303 : BitVec 1 := Scalar.cmpi .ne v302 c0_i32_99
  let v304 : BitVec 1 := Scalar.andi v301 v303
  let v290 : BitVec 32 := Scalar.divsi v285 c8_i32_94
  let c1_i32_100 : BitVec 32 := 1#32
  let v305 : BitVec 32 := Scalar.subi v290 c1_i32_100
  let v306 : BitVec 32 := Scalar.select v304 v305 v290
  let v317 : Index := Scalar.indexCast v306
  let c1_108 : Index := 1#32
  let c8_i32_101 : BitVec 32 := 8#32
  let c0_i32_102 : BitVec 32 := 0#32
  let v307 : BitVec 1 := Scalar.cmpi .eq c8_i32_101 c0_i32_102
  let c1_i32_103 : BitVec 32 := 1#32
  let v308 : BitVec 32 := Scalar.select v307 c1_i32_103 c8_i32_101
  let v309 : BitVec 32 := Scalar.remsi v285 v308
  let c0_i32_105 : BitVec 32 := 0#32
  let v311 : BitVec 1 := Scalar.cmpi .slt v309 c0_i32_105
  let c0_i32_106 : BitVec 32 := 0#32
  let v312 : BitVec 1 := Scalar.cmpi .slt v308 c0_i32_106
  let v313 : BitVec 1 := Scalar.xori v311 v312
  let c0_i32_104 : BitVec 32 := 0#32
  let v310 : BitVec 1 := Scalar.cmpi .ne v309 c0_i32_104
  let v314 : BitVec 1 := Scalar.andi v313 v310
  let v315 : BitVec 32 := Scalar.addi v309 v308
  let v316 : BitVec 32 := Scalar.select v314 v315 v309
  let v318 : Index := Scalar.indexCast v316
  let c0_109 : Index := 0#32
  ![1, v317.toNat, 1, v318.toNat, 0]
def k0_off6 (i : grid0.Coords) (c0_i32_137 : BitVec 32) : Fin 5 → Nat :=
  let c0_153 : Index := 0#32
  let arg1 : BitVec 32 := BitVec.ofNat 32 (i 1).val
  let c2_i32_136 : BitVec 32 := 2#32
  let v409 : BitVec 32 := Scalar.muli arg1 c2_i32_136
  let v410 : BitVec 32 := Scalar.addi v409 c0_i32_137
  let c0_i32_141 : BitVec 32 := 0#32
  let v416 : BitVec 1 := Scalar.cmpi .sgt v410 c0_i32_141
  let v417 : BitVec 32 := Scalar.extui v416
  let c0_i32_142 : BitVec 32 := 0#32
  let v418 : BitVec 1 := Scalar.cmpi .slt v410 c0_i32_142
  let v419 : BitVec 32 := Scalar.extui v418
  let v420 : BitVec 32 := Scalar.subi v417 v419
  let c8_i32_140 : BitVec 32 := 8#32
  let c0_i32_143 : BitVec 32 := 0#32
  let v421 : BitVec 1 := Scalar.cmpi .sgt c8_i32_140 c0_i32_143
  let v422 : BitVec 32 := Scalar.extui v421
  let c0_i32_144 : BitVec 32 := 0#32
  let v423 : BitVec 1 := Scalar.cmpi .slt c8_i32_140 c0_i32_144
  let v424 : BitVec 32 := Scalar.extui v423
  let v425 : BitVec 32 := Scalar.subi v422 v424
  let v426 : BitVec 1 := Scalar.cmpi .ne v420 v425
  let v427 : BitVec 32 := Scalar.remsi v410 c8_i32_140
  let c0_i32_145 : BitVec 32 := 0#32
  let v428 : BitVec 1 := Scalar.cmpi .ne v427 c0_i32_145
  let v429 : BitVec 1 := Scalar.andi v426 v428
  let v415 : BitVec 32 := Scalar.divsi v410 c8_i32_140
  let c1_i32_146 : BitVec 32 := 1#32
  let v430 : BitVec 32 := Scalar.subi v415 c1_i32_146
  let v431 : BitVec 32 := Scalar.select v429 v430 v415
  let v442 : Index := Scalar.indexCast v431
  let c2 : Index := 2#32
  let c8_i32_147 : BitVec 32 := 8#32
  let c0_i32_148 : BitVec 32 := 0#32
  let v432 : BitVec 1 := Scalar.cmpi .eq c8_i32_147 c0_i32_148
  let c1_i32_149 : BitVec 32 := 1#32
  let v433 : BitVec 32 := Scalar.select v432 c1_i32_149 c8_i32_147
  let v434 : BitVec 32 := Scalar.remsi v410 v433
  let c0_i32_151 : BitVec 32 := 0#32
  let v436 : BitVec 1 := Scalar.cmpi .slt v434 c0_i32_151
  let c0_i32_152 : BitVec 32 := 0#32
  let v437 : BitVec 1 := Scalar.cmpi .slt v433 c0_i32_152
  let v438 : BitVec 1 := Scalar.xori v436 v437
  let c0_i32_150 : BitVec 32 := 0#32
  let v435 : BitVec 1 := Scalar.cmpi .ne v434 c0_i32_150
  let v439 : BitVec 1 := Scalar.andi v438 v435
  let v440 : BitVec 32 := Scalar.addi v434 v433
  let v441 : BitVec 32 := Scalar.select v439 v440 v434
  let v443 : Index := Scalar.indexCast v441
  let c0_154 : Index := 0#32
  ![0, v442.toNat, 2, v443.toNat, 0]
def k0_off7 (i : grid0.Coords) (c0_i32_156 : BitVec 32) : Fin 5 → Nat :=
  let c0_172 : Index := 0#32
  let arg1 : BitVec 32 := BitVec.ofNat 32 (i 1).val
  let c2_i32_155 : BitVec 32 := 2#32
  let v450 : BitVec 32 := Scalar.muli arg1 c2_i32_155
  let v451 : BitVec 32 := Scalar.addi v450 c0_i32_156
  let c0_i32_160 : BitVec 32 := 0#32
  let v457 : BitVec 1 := Scalar.cmpi .sgt v451 c0_i32_160
  let v458 : BitVec 32 := Scalar.extui v457
  let c0_i32_161 : BitVec 32 := 0#32
  let v459 : BitVec 1 := Scalar.cmpi .slt v451 c0_i32_161
  let v460 : BitVec 32 := Scalar.extui v459
  let v461 : BitVec 32 := Scalar.subi v458 v460
  let c8_i32_159 : BitVec 32 := 8#32
  let c0_i32_162 : BitVec 32 := 0#32
  let v462 : BitVec 1 := Scalar.cmpi .sgt c8_i32_159 c0_i32_162
  let v463 : BitVec 32 := Scalar.extui v462
  let c0_i32_163 : BitVec 32 := 0#32
  let v464 : BitVec 1 := Scalar.cmpi .slt c8_i32_159 c0_i32_163
  let v465 : BitVec 32 := Scalar.extui v464
  let v466 : BitVec 32 := Scalar.subi v463 v465
  let v467 : BitVec 1 := Scalar.cmpi .ne v461 v466
  let v468 : BitVec 32 := Scalar.remsi v451 c8_i32_159
  let c0_i32_164 : BitVec 32 := 0#32
  let v469 : BitVec 1 := Scalar.cmpi .ne v468 c0_i32_164
  let v470 : BitVec 1 := Scalar.andi v467 v469
  let v456 : BitVec 32 := Scalar.divsi v451 c8_i32_159
  let c1_i32_165 : BitVec 32 := 1#32
  let v471 : BitVec 32 := Scalar.subi v456 c1_i32_165
  let v472 : BitVec 32 := Scalar.select v470 v471 v456
  let v483 : Index := Scalar.indexCast v472
  let c3 : Index := 3#32
  let c8_i32_166 : BitVec 32 := 8#32
  let c0_i32_167 : BitVec 32 := 0#32
  let v473 : BitVec 1 := Scalar.cmpi .eq c8_i32_166 c0_i32_167
  let c1_i32_168 : BitVec 32 := 1#32
  let v474 : BitVec 32 := Scalar.select v473 c1_i32_168 c8_i32_166
  let v475 : BitVec 32 := Scalar.remsi v451 v474
  let c0_i32_170 : BitVec 32 := 0#32
  let v477 : BitVec 1 := Scalar.cmpi .slt v475 c0_i32_170
  let c0_i32_171 : BitVec 32 := 0#32
  let v478 : BitVec 1 := Scalar.cmpi .slt v474 c0_i32_171
  let v479 : BitVec 1 := Scalar.xori v477 v478
  let c0_i32_169 : BitVec 32 := 0#32
  let v476 : BitVec 1 := Scalar.cmpi .ne v475 c0_i32_169
  let v480 : BitVec 1 := Scalar.andi v479 v476
  let v481 : BitVec 32 := Scalar.addi v475 v474
  let v482 : BitVec 32 := Scalar.select v480 v481 v475
  let v484 : Index := Scalar.indexCast v482
  let c0_173 : Index := 0#32
  ![0, v483.toNat, 3, v484.toNat, 0]
def k0_off8 (i : grid0.Coords) (c0_i32_195 : BitVec 32) : Fin 5 → Nat :=
  let c1_211 : Index := 1#32
  let arg1 : BitVec 32 := BitVec.ofNat 32 (i 1).val
  let c2_i32_194 : BitVec 32 := 2#32
  let v559 : BitVec 32 := Scalar.muli arg1 c2_i32_194
  let v560 : BitVec 32 := Scalar.addi v559 c0_i32_195
  let c0_i32_199 : BitVec 32 := 0#32
  let v566 : BitVec 1 := Scalar.cmpi .sgt v560 c0_i32_199
  let v567 : BitVec 32 := Scalar.extui v566
  let c0_i32_200 : BitVec 32 := 0#32
  let v568 : BitVec 1 := Scalar.cmpi .slt v560 c0_i32_200
  let v569 : BitVec 32 := Scalar.extui v568
  let v570 : BitVec 32 := Scalar.subi v567 v569
  let c8_i32_198 : BitVec 32 := 8#32
  let c0_i32_201 : BitVec 32 := 0#32
  let v571 : BitVec 1 := Scalar.cmpi .sgt c8_i32_198 c0_i32_201
  let v572 : BitVec 32 := Scalar.extui v571
  let c0_i32_202 : BitVec 32 := 0#32
  let v573 : BitVec 1 := Scalar.cmpi .slt c8_i32_198 c0_i32_202
  let v574 : BitVec 32 := Scalar.extui v573
  let v575 : BitVec 32 := Scalar.subi v572 v574
  let v576 : BitVec 1 := Scalar.cmpi .ne v570 v575
  let v577 : BitVec 32 := Scalar.remsi v560 c8_i32_198
  let c0_i32_203 : BitVec 32 := 0#32
  let v578 : BitVec 1 := Scalar.cmpi .ne v577 c0_i32_203
  let v579 : BitVec 1 := Scalar.andi v576 v578
  let v565 : BitVec 32 := Scalar.divsi v560 c8_i32_198
  let c1_i32_204 : BitVec 32 := 1#32
  let v580 : BitVec 32 := Scalar.subi v565 c1_i32_204
  let v581 : BitVec 32 := Scalar.select v579 v580 v565
  let v592 : Index := Scalar.indexCast v581
  let c2_212 : Index := 2#32
  let c8_i32_205 : BitVec 32 := 8#32
  let c0_i32_206 : BitVec 32 := 0#32
  let v582 : BitVec 1 := Scalar.cmpi .eq c8_i32_205 c0_i32_206
  let c1_i32_207 : BitVec 32 := 1#32
  let v583 : BitVec 32 := Scalar.select v582 c1_i32_207 c8_i32_205
  let v584 : BitVec 32 := Scalar.remsi v560 v583
  let c0_i32_209 : BitVec 32 := 0#32
  let v586 : BitVec 1 := Scalar.cmpi .slt v584 c0_i32_209
  let c0_i32_210 : BitVec 32 := 0#32
  let v587 : BitVec 1 := Scalar.cmpi .slt v583 c0_i32_210
  let v588 : BitVec 1 := Scalar.xori v586 v587
  let c0_i32_208 : BitVec 32 := 0#32
  let v585 : BitVec 1 := Scalar.cmpi .ne v584 c0_i32_208
  let v589 : BitVec 1 := Scalar.andi v588 v585
  let v590 : BitVec 32 := Scalar.addi v584 v583
  let v591 : BitVec 32 := Scalar.select v589 v590 v584
  let v593 : Index := Scalar.indexCast v591
  let c0_213 : Index := 0#32
  ![1, v592.toNat, 2, v593.toNat, 0]
def k0_off9 (i : grid0.Coords) (c0_i32_215 : BitVec 32) : Fin 5 → Nat :=
  let c1_231 : Index := 1#32
  let arg1 : BitVec 32 := BitVec.ofNat 32 (i 1).val
  let c2_i32_214 : BitVec 32 := 2#32
  let v600 : BitVec 32 := Scalar.muli arg1 c2_i32_214
  let v601 : BitVec 32 := Scalar.addi v600 c0_i32_215
  let c0_i32_219 : BitVec 32 := 0#32
  let v607 : BitVec 1 := Scalar.cmpi .sgt v601 c0_i32_219
  let v608 : BitVec 32 := Scalar.extui v607
  let c0_i32_220 : BitVec 32 := 0#32
  let v609 : BitVec 1 := Scalar.cmpi .slt v601 c0_i32_220
  let v610 : BitVec 32 := Scalar.extui v609
  let v611 : BitVec 32 := Scalar.subi v608 v610
  let c8_i32_218 : BitVec 32 := 8#32
  let c0_i32_221 : BitVec 32 := 0#32
  let v612 : BitVec 1 := Scalar.cmpi .sgt c8_i32_218 c0_i32_221
  let v613 : BitVec 32 := Scalar.extui v612
  let c0_i32_222 : BitVec 32 := 0#32
  let v614 : BitVec 1 := Scalar.cmpi .slt c8_i32_218 c0_i32_222
  let v615 : BitVec 32 := Scalar.extui v614
  let v616 : BitVec 32 := Scalar.subi v613 v615
  let v617 : BitVec 1 := Scalar.cmpi .ne v611 v616
  let v618 : BitVec 32 := Scalar.remsi v601 c8_i32_218
  let c0_i32_223 : BitVec 32 := 0#32
  let v619 : BitVec 1 := Scalar.cmpi .ne v618 c0_i32_223
  let v620 : BitVec 1 := Scalar.andi v617 v619
  let v606 : BitVec 32 := Scalar.divsi v601 c8_i32_218
  let c1_i32_224 : BitVec 32 := 1#32
  let v621 : BitVec 32 := Scalar.subi v606 c1_i32_224
  let v622 : BitVec 32 := Scalar.select v620 v621 v606
  let v633 : Index := Scalar.indexCast v622
  let c3_232 : Index := 3#32
  let c8_i32_225 : BitVec 32 := 8#32
  let c0_i32_226 : BitVec 32 := 0#32
  let v623 : BitVec 1 := Scalar.cmpi .eq c8_i32_225 c0_i32_226
  let c1_i32_227 : BitVec 32 := 1#32
  let v624 : BitVec 32 := Scalar.select v623 c1_i32_227 c8_i32_225
  let v625 : BitVec 32 := Scalar.remsi v601 v624
  let c0_i32_229 : BitVec 32 := 0#32
  let v627 : BitVec 1 := Scalar.cmpi .slt v625 c0_i32_229
  let c0_i32_230 : BitVec 32 := 0#32
  let v628 : BitVec 1 := Scalar.cmpi .slt v624 c0_i32_230
  let v629 : BitVec 1 := Scalar.xori v627 v628
  let c0_i32_228 : BitVec 32 := 0#32
  let v626 : BitVec 1 := Scalar.cmpi .ne v625 c0_i32_228
  let v630 : BitVec 1 := Scalar.andi v629 v626
  let v631 : BitVec 32 := Scalar.addi v625 v624
  let v632 : BitVec 32 := Scalar.select v630 v631 v625
  let v634 : Index := Scalar.indexCast v632
  let c0_233 : Index := 0#32
  ![1, v633.toNat, 3, v634.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.addi arg0 c35_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S8192x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x768x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S96x2x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x96x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x768x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x768x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2x4x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F]
-- ==== ReferenceIdeal.lean ====
abbrev S16x512x1536 : Shape := ⟨3, ![16, 512, 1536]⟩
abbrev S768x2x8960 : Shape := ⟨3, ![768, 2, 8960]⟩
abbrev S96x2x8960 : Shape := ⟨3, ![96, 2, 8960]⟩
abbrev S140x768x128 : Shape := ⟨3, ![140, 768, 128]⟩
abbrev S2x768x8960 : Shape := ⟨3, ![2, 768, 8960]⟩
abbrev S_ : Shape := ⟨0, ![]⟩
abbrev S2x768x1x8960 : Shape := ⟨4, ![2, 768, 1, 8960]⟩
abbrev S2x768x2x8960 : Shape := ⟨4, ![2, 768, 2, 8960]⟩
abbrev S2x96x16x8960 : Shape := ⟨4, ![2, 96, 16, 8960]⟩
abbrev S2x96x8960 : Shape := ⟨3, ![2, 96, 8960]⟩
abbrev S2x96x1x8960 : Shape := ⟨4, ![2, 96, 1, 8960]⟩
abbrev S2x1536x8960 : Shape := ⟨3, ![2, 1536, 8960]⟩
abbrev S140x768x128x2 : Shape := ⟨4, ![140, 768, 128, 2]⟩
abbrev S2x70x768x128x2 : Shape := ⟨5, ![2, 70, 768, 128, 2]⟩
abbrev S2x768x2x70x128 : Shape := ⟨5, ![2, 768, 2, 70, 128]⟩
abbrev S1x1536x8960 : Shape := ⟨3, ![1, 1536, 8960]⟩
abbrev S1536x8960 : Shape := ⟨2, ![1536, 8960]⟩
abbrev S16x512x8960 : Shape := ⟨3, ![16, 512, 8960]⟩
abbrev S16x512x70x128 : Shape := ⟨4, ![16, 512, 70, 128]⟩
abbrev S16x512x70 : Shape := ⟨3, ![16, 512, 70]⟩
abbrev S16x512x70x1 : Shape := ⟨4, ![16, 512, 70, 1]⟩
abbrev S2x8x4x128x70 : Shape := ⟨5, ![2, 8, 4, 128, 70]⟩
abbrev S8192x8960 : Shape := ⟨2, ![8192, 8960]⟩
abbrev S70x2x4x8x128 : Shape := ⟨5, ![70, 2, 4, 8, 128]⟩

abbrev nBuf : Space → Nat
  | .hbm => 95
  | .vmem => 0
  | .smem => 0
  | _ => 0

abbrev bufTy : (tb : Table) → Fin (tcTables nBuf tb) → BufTy
  | .hbm, ⟨0, _⟩ => ⟨S16x512x1536, .bf16⟩
  | .hbm, ⟨1, _⟩ => ⟨S768x2x8960, .i8⟩
  | .hbm, ⟨2, _⟩ => ⟨S96x2x8960, .bf16⟩
  | .hbm, ⟨3, _⟩ => ⟨S96x2x8960, .i8⟩
  | .hbm, ⟨4, _⟩ => ⟨S140x768x128, .i32⟩
  | .hbm, ⟨5, _⟩ => ⟨S2x768x8960, .i8⟩
  | .hbm, ⟨6, _⟩ => ⟨S2x768x8960, .i32⟩
  | .hbm, ⟨7, _⟩ => ⟨S_, .i32⟩
  | .hbm, ⟨8, _⟩ => ⟨S2x768x8960, .i32⟩
  | .hbm, ⟨9, _⟩ => ⟨S2x768x8960, .i32⟩
  | .hbm, ⟨10, _⟩ => ⟨S_, .i32⟩
  | .hbm, ⟨11, _⟩ => ⟨S2x768x8960, .i32⟩
  | .hbm, ⟨12, _⟩ => ⟨S2x768x8960, .i32⟩
  | .hbm, ⟨13, _⟩ => ⟨S2x768x1x8960, .i32⟩
  | .hbm, ⟨14, _⟩ => ⟨S2x768x1x8960, .i32⟩
  | .hbm, ⟨15, _⟩ => ⟨S2x768x2x8960, .i32⟩
  | .hbm, ⟨16, _⟩ => ⟨S2x96x16x8960, .i32⟩
  | .hbm, ⟨17, _⟩ => ⟨S2x96x8960, .bf16⟩
  | .hbm, ⟨18, _⟩ => ⟨S2x96x1x8960, .bf16⟩
  | .hbm, ⟨19, _⟩ => ⟨S2x96x8960, .i8⟩
  | .hbm, ⟨20, _⟩ => ⟨S2x96x8960, .i32⟩
  | .hbm, ⟨21, _⟩ => ⟨S2x96x8960, .bf16⟩
  | .hbm, ⟨22, _⟩ => ⟨S2x96x1x8960, .bf16⟩
  | .hbm, ⟨23, _⟩ => ⟨S2x96x16x8960, .bf16⟩
  | .hbm, ⟨24, _⟩ => ⟨S2x96x16x8960, .bf16⟩
  | .hbm, ⟨25, _⟩ => ⟨S2x96x16x8960, .bf16⟩
  | .hbm, ⟨26, _⟩ => ⟨S2x96x16x8960, .bf16⟩
  | .hbm, ⟨27, _⟩ => ⟨S2x96x16x8960, .bf16⟩
  | .hbm, ⟨28, _⟩ => ⟨S2x1536x8960, .bf16⟩
  | .hbm, ⟨29, _⟩ => ⟨S140x768x128x2, .bf16⟩
  | .hbm, ⟨30, _⟩ => ⟨S2x70x768x128x2, .bf16⟩
  | .hbm, ⟨31, _⟩ => ⟨S2x768x2x70x128, .bf16⟩
  | .hbm, ⟨32, _⟩ => ⟨S2x1536x8960, .bf16⟩
  | .hbm, ⟨33, _⟩ => ⟨S2x1536x8960, .bf16⟩
  | .hbm, ⟨34, _⟩ => ⟨S1x1536x8960, .bf16⟩
  | .hbm, ⟨35, _⟩ => ⟨S1536x8960, .bf16⟩
  | .hbm, ⟨36, _⟩ => ⟨S16x512x8960, .f32⟩
  | .hbm, ⟨37, _⟩ => ⟨S1x1536x8960, .bf16⟩
  | .hbm, ⟨38, _⟩ => ⟨S1536x8960, .bf16⟩
  | .hbm, ⟨39, _⟩ => ⟨S16x512x8960, .f32⟩
  | .hbm, ⟨40, _⟩ => ⟨S16x512x8960, .f32⟩
  | .hbm, ⟨41, _⟩ => ⟨S16x512x8960, .f32⟩
  | .hbm, ⟨42, _⟩ => ⟨S_, .f32⟩
  | .hbm, ⟨43, _⟩ => ⟨S16x512x8960, .f32⟩
  | .hbm, ⟨44, _⟩ => ⟨S16x512x8960, .f32⟩
  | .hbm, ⟨45, _⟩ => ⟨S_, .f32⟩
  | .hbm, ⟨46, _⟩ => ⟨S16x512x8960, .f32⟩
  | .hbm, ⟨47, _⟩ => ⟨S16x512x8960, .f32⟩
  | .hbm, ⟨48, _⟩ => ⟨S16x512x8960, .f32⟩
  | .hbm, ⟨49, _⟩ => ⟨S16x512x8960, .f32⟩
  | .hbm, ⟨50, _⟩ => ⟨S16x512x70x128, .f32⟩
  | .hbm, ⟨51, _⟩ => ⟨S16x512x70x128, .f32⟩
  | .hbm, ⟨52, _⟩ => ⟨S_, .f32⟩
  | .hbm, ⟨53, _⟩ => ⟨S16x512x70, .f32⟩
  | .hbm, ⟨54, _⟩ => ⟨S_, .f32⟩
  | .hbm, ⟨55, _⟩ => ⟨S16x512x70, .f32⟩
  | .hbm, ⟨56, _⟩ => ⟨S16x512x70, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S16x512x70, .f32⟩
  | .hbm, ⟨61, _⟩ => ⟨S16x512x70, .i1⟩
  | .hbm, ⟨62, _⟩ => ⟨S16x512x70, .f32⟩
  | .hbm, ⟨63, _⟩ => ⟨S16x512x70, .f32⟩
  | .hbm, ⟨64, _⟩ => ⟨S16x512x70, .f32⟩
  | .hbm, ⟨65, _⟩ => ⟨S16x512x70, .f32⟩
  | .hbm, ⟨66, _⟩ => ⟨S_, .f32⟩
  | .hbm, ⟨67, _⟩ => ⟨S16x512x70, .f32⟩
  | .hbm, ⟨68, _⟩ => ⟨S16x512x70, .f32⟩
  | .hbm, ⟨69, _⟩ => ⟨S_, .f32⟩
  | .hbm, ⟨70, _⟩ => ⟨S_, .f32⟩
  | .hbm, ⟨71, _⟩ => ⟨S16x512x70, .f32⟩
  | .hbm, ⟨72, _⟩ => ⟨S16x512x70, .f32⟩
  | .hbm, ⟨73, _⟩ => ⟨S16x512x70, .f32⟩
  | .hbm, ⟨74, _⟩ => ⟨S16x512x70, .f32⟩
  | .hbm, ⟨75, _⟩ => ⟨S16x512x70, .f32⟩
  | .hbm, ⟨76, _⟩ => ⟨S16x512x70, .f32⟩
  | .hbm, ⟨77, _⟩ => ⟨S16x512x70, .f32⟩
  | .hbm, ⟨78, _⟩ => ⟨S16x512x70, .f32⟩
  | .hbm, ⟨79, _⟩ => ⟨S16x512x70, .f32⟩
  | .hbm, ⟨80, _⟩ => ⟨S16x512x70x1, .f32⟩
  | .hbm, ⟨81, _⟩ => ⟨S16x512x70x128, .f32⟩
  | .hbm, ⟨82, _⟩ => ⟨S16x512x70x128, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x512x70x128, .f32⟩
  | .hbm, ⟨87, _⟩ => ⟨S16x512x70x128, .f32⟩
  | .hbm, ⟨88, _⟩ => ⟨S_, .f32⟩
  | .hbm, ⟨89, _⟩ => ⟨S16x512x70x128, .f32⟩
  | .hbm, ⟨90, _⟩ => ⟨S16x512x70x128, .f32⟩
  | .hbm, ⟨91, _⟩ => ⟨S16x512x70x128, .fp8e4m3⟩
  | .hbm, ⟨92, _⟩ => ⟨S2x8x4x128x70, .f32⟩
  | .hbm, ⟨93, _⟩ => ⟨S8192x8960, .fp8e4m3⟩
  | .hbm, ⟨94, _⟩ => ⟨S70x2x4x8x128, .f32⟩
  | _, _ => ⟨S16x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_6 : Ref sig .tc := ⟨.hbm, 83, rfl⟩
abbrev main_cst_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Proof.Dequant.lean ====
/- The dequantisation of the weights, written as one block repeated: 24 row blocks of each of the two projections, each
   block four groups of 16 rows, each group stored in two halves of 128 columns. -/
module

public import proofs.«01_k».proof.Proof.Gen.Kernel

@[expose] public section

noncomputable section

namespace Cert.Kernel

open Idealize.ShloMosaic Idealize.SL.Sem
open Cert.Kernel.Gen

variable {F : FTy → Type} [BitOps F]

theorem slice_word (q : Fin 4) : S32x256.Slices ![8 * q.1, 0] S8x256 := by revert q; decide
theorem slice_zero (r : Fin 32) : S32x256.Slices ![r.1, 0] S1x256 := by revert r; decide
theorem inb_wp (p : Fin 2) (t : Fin 24) : ∀ a, (![p.1, 32 * t.1, 0] : Fin 3 → Nat) a + S1x32x256.size a ≤ S2x768x256.size a := by
  revert p t; decide
theorem inb_wz (p : Fin 2) (t : Fin 24) : ∀ a, (![p.1, 32 * (t.1 / 8), 0] : Fin 3 → Nat) a + S1x32x256.size a ≤ S2x96x256.size a := by
  revert p t; decide
theorem inb_ws (g : Fin 96) : ∀ a, (![g.1, 0, 0] : Fin 3 → Nat) a + S1x2x256.size a ≤ S96x2x256.size a := by
  revert g; decide
theorem inb_out (c : Fin 2) (g : Fin 96) : ∀ a, (![c.1, 8 * g.1, 0] : Fin 3 → Nat) a + S1x8x128.size a ≤ S2x768x128.size a := by
  revert c g; decide
theorem inb_scr (p c : Fin 2) (g : Fin 96) : ∀ a, (![16 * g.1, 256 * p.1 + 128 * c.1] : Fin 2 → Nat) a + S16x128.size a ≤ S1536x512.size a := by
  revert p c g; decide
theorem slice_half (c : Fin 2) : S16x256.Slices ![0, 128 * c.1] S16x128 := by revert c; decide
theorem packed_scr (p c : Fin 2) (g : Fin 96) :
    (Rect.unit (s := S1536x512) ![16 * g.1, 256 * p.1 + 128 * c.1] S16x128.size (inb_scr p c g)).PackedRows (EltTy.packing .bf16) := by
  revert p c g; decide

/-- The bits of 128 + code of 16 rows, two rows to a word. -/
def word (b : IVec S32x256 32) (q : Fin 4) : IVec S8x256 32 :=
  ori (ori (andi (extractStridedSlice S8x256 ![8 * q.1, 0] b (slice_word q)) (broadcast S8x256 15#32))
    (shli (andi (extractStridedSlice S8x256 ![8 * q.1, 0] b (slice_word q)) (broadcast S8x256 240#32)) (broadcast S8x256 12#32)))
    (broadcast S8x256 1124090624#32)

/-- The bits of 128 + zero of one group's zero points, twice in a word. -/
def zeroRow (z : IVec S32x256 32) (r : Fin 32) : IVec S1x256 32 :=
  ori (extractStridedSlice S1x256 ![r.1, 0] z (slice_zero r)) (broadcast S1x256 17152#32)

/-- One group's zero points over the group's rows. -/
def zero (z : IVec S32x256 32) (r : Fin 32) : IVec S8x256 32 :=
  broadcastTo S8x256 (shapeCast S1x256 (ori (zeroRow z r) (shli (zeroRow z r) (broadcast S1x256 16#32))) shapeCasts_S1x256_S1x256)
    broadcasts_S1x256_S8x256

/-- The scales of projection p of one group, from the words that hold both projections'. -/
def dup (p : Fin 2) (w : IVec S1x256 32) : IVec S1x256 32 :=
  match p with
  | 0 => ori (andi w (broadcast S1x256 65535#32)) (shli (andi w (broadcast S1x256 65535#32)) (broadcast S1x256 16#32))
  | 1 => ori (andi w (broadcast S1x256 4294901760#32)) (shrui (andi w (broadcast S1x256 4294901760#32)) (broadcast S1x256 16#32))

/-- One group's scales over the group's rows. -/
def scaleRows (p : Fin 2) (s : Vec F S1x2x256 .bf16) : FVec F S16x256 .bf16 :=
  have w := dup p (shapeCast S1x256 (bitcast S1x1x256 32 (bitcastToInt s) bitcasts_S1x2x256_w16_S1x1x256_w32) shapeCasts_S1x1x256_S1x256)
  have v : FVec F S8x256 .bf16 := bitcastToFloat .bf16 (bitcast S8x256 16
    (concatenate S4x256 0 [⟨S1x256, w⟩, ⟨S1x256, w⟩, ⟨S1x256, w⟩, ⟨S1x256, w⟩] concatenates_S1x256_S1x256_S1x256_S1x256_S4x256_d0)
    bitcasts_S4x256_w32_S8x256_w16)
  concatenate S16x256 0 [⟨S8x256, v⟩, ⟨S8x256, v⟩] concatenates_S8x256_S8x256_S16x256_d0

/-- (code - zero) * scale of one group. -/
def deq (p : Fin 2) (q : Fin 4) (r : Fin 32) (b z : Vec F S1x32x256 .i8) (s : Vec F S1x2x256 .bf16) : FVec F S16x256 .bf16 :=
  mulf (subf (bitcastToFloat .bf16 (bitcast S16x256 16 (word (extui 32 (shapeCast S32x256 b shapeCasts_S1x32x256_S32x256 : IVec S32x256 8) natLt_8_32) q) bitcasts_S8x256_w32_S16x256_w16))
    (bitcastToFloat .bf16 (bitcast S16x256 16 (zero (extui 32 (shapeCast S32x256 z shapeCasts_S1x32x256_S32x256 : IVec S32x256 8) natLt_8_32) r) bitcasts_S8x256_w32_S16x256_w16)))
    (scaleRows p s)

/-- Half a group: 128 columns, the outliers added. -/
def half (c : Fin 2) (d : FVec F S16x256 .bf16) (o : Vec F S1x8x128 .i32) : FVec F S16x128 .bf16 :=
  shapeCast S16x128 (addf (extractStridedSlice S16x128 ![0, 128 * c.1] d (slice_half c))
    (bitcastToFloat .bf16 (bitcast S16x128 16 (shapeCast S8x128 o shapeCasts_S1x8x128_S8x128 : IVec S8x128 32) bitcasts_S8x128_w32_S16x128_w16)))
    shapeCasts_S16x128_S16x128

variable (arg3 : Memref sig .tc .vmem S2x768x256 .i8) (arg4 : Memref sig .tc .vmem S96x2x256 .bf16)
  (arg5 : Memref sig .tc .vmem S2x96x256 .i8) (o : Memref sig .tc .vmem S2x768x128 .i32)
  (arg10 : Memref sig .tc .vmem S1536x512 .bf16) (harg10 : arg10.IsWhole)

/-- One half of group g: its outliers read, its weights stored. -/
def halfProg (p c : Fin 2) (g : Fin 96) (d : FVec F S16x256 .bf16) : Prog (TpuEff nD τ sig (Elt F) Λ₀ .tc) PUnit := do
  let w ← Prog.lift (.load o (Rect.unit (s := S2x768x128) ![c.1, 8 * g.1, 0] S1x8x128.size (inb_out c g)).toLoadRect (View.loadsAt_vmem h_S1x8x128))
  let _ ← Prog.lift (.load arg10 (Rect.unit (s := S1536x512) ![16 * g.1, 256 * p.1 + 128 * c.1] S16x128.size (inb_scr p c g)).toLoadRect (View.loadsAt_vmem h_S16x128))
  Prog.lift (.store arg10 (Rect.unit (s := S1536x512) ![16 * g.1, 256 * p.1 + 128 * c.1] S16x128.size (inb_scr p c g)) (half c d w) Finset.univ
    (View.stores_vmem h_S16x128 (harg10.storeExact_slice rfl _ (packed_scr p c g)) (fun _ => rfl)) (.inl rfl))

/-- Group q of row block t. -/
def groupProg (p : Fin 2) (t : Fin 24) (q : Fin 4) (b z : Vec F S1x32x256 .i8) : Prog (TpuEff nD τ sig (Elt F) Λ₀ .tc) PUnit := do
  let s ← Prog.lift (.load arg4 (Rect.unit (s := S96x2x256) ![4 * t.1 + q.1, 0, 0] S1x2x256.size (inb_ws ⟨4 * t.1 + q.1, by omega⟩)).toLoadRect (View.loadsAt_vmem h_S1x2x256))
  halfProg o arg10 harg10 p 0 ⟨4 * t.1 + q.1, by omega⟩ (deq p q ⟨(4 * t.1 + q.1) % 32, Nat.mod_lt _ (by decide)⟩ b z s)
  halfProg o arg10 harg10 p 1 ⟨4 * t.1 + q.1, by omega⟩ (deq p q ⟨(4 * t.1 + q.1) % 32, Nat.mod_lt _ (by decide)⟩ b z s)

/-- Row block t of projection p. -/
def blockProg (p : Fin 2) (t : Fin 24) : Prog (TpuEff nD τ sig (Elt F) Λ₀ .tc) PUnit := do
  let b ← Prog.lift (.load arg3 (Rect.unit (s := S2x768x256) ![p.1, 32 * t.1, 0] S1x32x256.size (inb_wp p t)).toLoadRect (View.loadsAt_vmem h_S1x32x256))
  let z ← Prog.lift (.load arg5 (Rect.unit (s := S2x96x256) ![p.1, 32 * (t.1 / 8), 0] S1x32x256.size (inb_wz p t)).toLoadRect (View.loadsAt_vmem h_S1x32x256))
  groupProg arg4 o arg10 harg10 p t 0 b z
  groupProg arg4 o arg10 harg10 p t 1 b z
  groupProg arg4 o arg10 harg10 p t 2 b z
  groupProg arg4 o arg10 harg10 p t 3 b z

/-- The row blocks from t on. -/
def blocksProg (p : Fin 2) : (n : Nat) → (t : Nat) → Prog (TpuEff nD τ sig (Elt F) Λ₀ .tc) PUnit
  | 0, _ => pure ⟨⟩
  | n + 1, t => do
    if h : t < 24 then blockProg arg3 arg4 arg5 o arg10 harg10 p ⟨t, h⟩
    blocksProg p n (t + 1)

end Cert.Kernel
-- ==== Proof.Body.lean ====
/- The body of the kernel at one grid point, written with its loops: at the first step of a column block the weights are
   dequantised, then four row blocks of 256 rows are computed, each in two halves of 128 columns. -/
module

public import proofs.«01_k».proof.Proof.Dequant

@[expose] public section

noncomputable section

namespace Cert.Kernel

open Idealize.ShloMosaic Idealize.SL.Sem
open Cert.Kernel.Gen

variable {F : FTy → Type} [BitOps F]

attribute [local instance] Cert.Kernel.Gen.facts

theorem inb_codes (m : Fin 4) (c : Fin 2) : ∀ a, (![256 * m.1, 128 * c.1] : Fin 2 → Nat) a + S256x128.size a ≤ S1024x256.size a := by
  revert m c; decide
theorem packed_codes (m : Fin 4) (c : Fin 2) :
    (Rect.unit (s := S1024x256) ![256 * m.1, 128 * c.1] S256x128.size (inb_codes m c)).PackedRows (EltTy.packing .fp8e4m3) := by
  revert m c; decide
theorem slice_cols (c : Fin 2) : S256x256.Slices ![0, 128 * c.1] S256x128 := by revert c; decide
theorem slice_rows (r : Fin 2) : S256x1.Slices ![128 * r.1, 0] S128x1 := by revert r; decide

/-- The products of a row block: gate columns, then up columns. -/
def acc (x : Vec F S256x1536 .bf16) (w : Vec F S1536x512 .bf16) : FVec F S256x512 .f32 :=
  matmul (φ₂ := .bf16) dot_S256x1536_S1536x512_S256x512_1_0_0_1_n_n none (shapeCast S256x1536 x shapeCasts_S256x1536_S256x1536 : FVec F S256x1536 .bf16) w
    (constant S256x512 .f32 0x00000000#32)

/-- silu(gate) * up of a row block. -/
def act (v : FVec F S256x512 .f32) : FVec F S256x256 .f32 :=
  have g := extractStridedSlice S256x256 ![0, 0] v slices_S256x512_o0_0_S256x256
  mulf (divf g (addf (broadcast S256x256 (Scalar.ofBits .f32 0x3F800000#32)) (exp (subf (broadcast S256x256 (Scalar.ofBits .f32 0x00000000#32)) g))))
    (extractStridedSlice S256x256 ![0, 256] v slices_S256x512_o0_256_S256x256)

/-- Half the columns of a row block. -/
def cols (c : Fin 2) (h : FVec F S256x256 .f32) : FVec F S256x128 .f32 :=
  extractStridedSlice S256x128 ![0, 128 * c.1] h (slice_cols c)

/-- The largest absolute value of each row, over 448. -/
def rowMax (h : FVec F S256x128 .f32) : FVec F S256x1 .f32 :=
  mulf (shapeCast S256x1 (multiReduction .maximumf [1] S256 (absf h) 0xFF800000#32 reduces_S256x128_S256 (.inl rfl) rfl) shapeCasts_S256_S256x1)
    (broadcast S256x1 (Scalar.ofBits .f32 0x3B124925#32))

/-- One bit of the exponent field: kept when the power of two it makes is at most y. -/
def bitStep (y : FVec F S256x1 .f32) (b : BitVec 32) (e : IVec S256x1 32) : IVec S256x1 32 :=
  select (cmpf .oge y (bitcastToFloat .f32 (ori e (broadcast S256x1 b)))) (ori e (broadcast S256x1 b)) e

/-- The exponent field of y. -/
def field (y : FVec F S256x1 .f32) : IVec S256x1 32 :=
  bitStep y 8388608#32 (bitStep y 16777216#32 (bitStep y 33554432#32 (bitStep y 67108864#32 (bitStep y 134217728#32
    (bitStep y 268435456#32 (bitStep y 536870912#32 (bitStep y 1073741824#32 (broadcast S256x1 0#32))))))))

/-- The exponent field, 126 where it is 0 or all ones. -/
def expo (h : FVec F S256x128 .f32) : IVec S256x1 32 :=
  have e := field (rowMax h)
  select (ori (cmpi .eq e (broadcast S256x1 0#32)) (cmpi .eq e (broadcast S256x1 2139095040#32))) (broadcast S256x1 1056964608#32) e

/-- Each row's scale. -/
def scales (h : FVec F S256x128 .f32) : FVec F S256x1 .f32 :=
  bitcastToFloat .f32 (addi (expo h) (broadcast S256x1 8388608#32))

/-- The quantised values of half a row block. -/
def codes (h : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32))
    (mulf h (broadcastTo S256x128 (bitcastToFloat .f32 (subi (broadcast S256x1 2122317824#32) (expo h)) : FVec F S256x1 .f32) broadcasts_S256x1_S256x128))))
    bitsLt_fp8e4m3_f32

/-- The scales of 128 rows laid out along a row: the sum over the diagonal matrix they make. -/
def scaleRow (r : Fin 2) (s : FVec F S256x1 .f32) : FVec F S1x1x1x1x128 .f32 :=
  shapeCast S1x1x1x1x128 (shapeCast S1x128 (multiReduction .add [0] S128
    (select (cmpi .eq (iota .tc S128x128 32 [0] iota_S128x128_d0_w32) (iota .tc S128x128 32 [1] iota_S128x128_d1_w32))
      (broadcastTo S128x128 (shapeCast S128x1 (extractStridedSlice S128x1 ![128 * r.1, 0] s (slice_rows r)) shapeCasts_S128x1_S128x1) broadcasts_S128x1_S128x128)
      (broadcast S128x128 (Scalar.ofBits .f32 0x00000000#32))) 0x00000000#32 reduces_S128x128_S128 (.inl rfl) rfl : FVec F S128 .f32) shapeCasts_S128_S1x128)
    shapeCasts_S1x128_S1x1x1x1x128

/-- The batch of half a grid step. -/
def batch (i1 : Nat) (b : BitVec 32) : BitVec 32 := Scalar.addi (Scalar.muli (BitVec.ofNat 32 i1) 2#32) b

/-- Its quotient by 8. -/
def batchHi (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 8#32 0#32)) (Scalar.extui (Scalar.cmpi .slt 8#32 0#32))))
    (Scalar.cmpi .ne (Scalar.remsi v 8#32) 0#32))
    (Scalar.subi (Scalar.divsi v 8#32) 1#32) (Scalar.divsi v 8#32)

/-- Its remainder by 8. -/
def batchLo (v : BitVec 32) : BitVec 32 :=
  have d : BitVec 32 := Scalar.select (Scalar.cmpi .eq 8#32 0#32) 1#32 8#32
  have w := Scalar.remsi v d
  Scalar.select (Scalar.andi (Scalar.xori (Scalar.cmpi .slt w 0#32) (Scalar.cmpi .slt d 0#32)) (Scalar.cmpi .ne w 0#32)) (Scalar.addi w d) w

/-- Where the scales of 128 rows go, as the kernel computes it. -/
def scaleOff (i : grid0.Coords) (m : Fin 4) (c r : Fin 2) : Fin 5 → Nat :=
  ![c.1, (Scalar.indexCast (batchHi (batch (i 1).val (BitVec.ofNat 32 (m.1 / 2))))).toNat, 2 * (m.1 % 2) + r.1,
    (Scalar.indexCast (batchLo (batch (i 1).val (BitVec.ofNat 32 (m.1 / 2))))).toNat, 0]

theorem scaleOff_eq (i : grid0.Coords) (m : Fin 4) (c r : Fin 2) :
    scaleOff i m c r = ![c.1, (i 1).val / 4, 2 * (m.1 % 2) + r.1, (2 * (i 1).val + m.1 / 2) % 8, 0] := by
  have h : ∀ (k : Fin 8) (m : Fin 4), (Scalar.indexCast (batchHi (batch k.1 (BitVec.ofNat 32 (m.1 / 2))))).toNat = k.1 / 4 ∧
      (Scalar.indexCast (batchLo (batch k.1 (BitVec.ofNat 32 (m.1 / 2))))).toNat = (2 * k.1 + m.1 / 2) % 8 := by decide
  obtain ⟨h1, h2⟩ := h (i 1) m
  rw [scaleOff]
  exact congrArg₂ (fun a b => ![c.1, a, 2 * (m.1 % 2) + r.1, b, 0]) h1 h2

theorem scaleOff_inb (i : grid0.Coords) (m : Fin 4) (c r : Fin 2) : ∀ a, scaleOff i m c r a + S1x1x1x1x128.size a ≤ S2x2x4x8x128.size a := by
  rw [scaleOff_eq]
  have hi : (i 1).val < 8 := (i 1).isLt
  generalize (i 1).val = k at hi
  intro a; fin_cases a <;> simp [S1x1x1x1x128, S2x2x4x8x128] <;> omega

variable (i : grid0.Coords) (arg2 : Memref sig .tc .vmem S8192x1536 .bf16) (arg3 : Memref sig .tc .vmem S2x768x256 .i8)
  (arg4 : Memref sig .tc .vmem S96x2x256 .bf16) (arg5 : Memref sig .tc .vmem S2x96x256 .i8)
  (arg6 arg7 : Memref sig .tc .vmem S2x768x128 .i32) (arg8 : Memref sig .tc .vmem S1024x256 .fp8e4m3) (harg8 : arg8.IsWhole)
  (arg9 : Memref sig .tc .vmem S2x2x4x8x128 .f32) (arg10 : Memref sig .tc .vmem S1536x512 .bf16) (harg10 : arg10.IsWhole)

/-- The scales of 128 rows stored. -/
def scaleProg (m : Fin 4) (c r : Fin 2) (s : FVec F S256x1 .f32) : Prog (TpuEff nD τ sig (Elt F) Λ₀ .tc) PUnit := do
  let _ ← Prog.lift (.load arg9 (Rect.unit (s := S2x2x4x8x128) (scaleOff i m c r) S1x1x1x1x128.size (scaleOff_inb i m c r)).toLoadRect (View.loadsAt_vmem h_S1x1x1x1x128))
  Prog.lift (.store arg9 (Rect.unit (s := S2x2x4x8x128) (scaleOff i m c r) S1x1x1x1x128.size (scaleOff_inb i m c r)) (scaleRow r s) Finset.univ
    (View.stores_vmem_bits_univ h_S1x1x1x1x128 rfl) (.inl rfl))

/-- Half the columns of a row block stored. -/
def colsProg (m : Fin 4) (c : Fin 2) (h : FVec F S256x128 .f32) : Prog (TpuEff nD τ sig (Elt F) Λ₀ .tc) PUnit := do
  let _ ← Prog.lift (.load arg8 (Rect.unit (s := S1024x256) ![256 * m.1, 128 * c.1] S256x128.size (inb_codes m c)).toLoadRect (View.loadsAt_vmem h_S256x128))
  Prog.lift (.store arg8 (Rect.unit (s := S1024x256) ![256 * m.1, 128 * c.1] S256x128.size (inb_codes m c)) (codes h) Finset.univ
    (View.stores_vmem h_S256x128 (harg8.storeExact_slice rfl _ (packed_codes m c)) (fun _ => rfl)) (.inl rfl))
  scaleProg i arg9 m c 0 (scales h)
  scaleProg i arg9 m c 1 (scales h)

/-- A row block. -/
def rowsProg (m : Fin 4) : Prog (TpuEff nD τ sig (Elt F) Λ₀ .tc) PUnit := do
  let x ← Prog.lift (.load arg2 (Rect.unit (s := S8192x1536) (k0_off1 i (BitVec.ofNat 32 (256 * m.1))) S256x1536.size (k0_off1_inb i m)).toLoadRect (View.loadsAt_vmem h_S256x1536))
  let w ← Prog.lift (.load arg10 (Rect.unit (s := S1536x512) ![0, 0] S1536x512.size inb_S1536x512_S1536x512_0_0).toLoadRect (View.loadsAt_vmem h_S1536x512))
  colsProg i arg8 harg8 arg9 m 0 (cols 0 (act (acc x w)))
  colsProg i arg8 harg8 arg9 m 1 (cols 1 (act (acc x w)))

/-- The weights dequantised. -/
def dequantProg : Prog (TpuEff nD τ sig (Elt F) Λ₀ .tc) PUnit := do
  blocksProg arg3 arg4 arg5 arg6 arg10 harg10 0 12 0
  blocksProg arg3 arg4 arg5 arg6 arg10 harg10 0 12 12
  blocksProg arg3 arg4 arg5 arg7 arg10 harg10 1 12 0
  blocksProg arg3 arg4 arg5 arg7 arg10 harg10 1 12 12

/-- The row blocks. -/
def restProg : Prog (TpuEff nD τ sig (Elt F) Λ₀ .tc) PUnit := do
  rowsProg i arg2 arg8 harg8 arg9 arg10 0
  rowsProg i arg2 arg8 harg8 arg9 arg10 1
  rowsProg i arg2 arg8 harg8 arg9 arg10 2
  rowsProg i arg2 arg8 harg8 arg9 arg10 3

end Cert.Kernel
-- ==== Proof.BodyEq.lean ====
/- The printed body is the body written with its loops. -/
module

public import proofs.«01_k».proof.Proof.Body

@[expose] public section

noncomputable section

namespace Cert.Kernel

open Idealize.ShloMosaic Idealize.SL.Sem
open Cert.Kernel.Gen

variable {F : FTy → Type} [BitOps F]

attribute [local instance] Cert.Kernel.Gen.facts

set_option maxRecDepth 100000
set_option maxHeartbeats 4000000

variable {i : grid0.Coords} {arg2 : Memref sig .tc .vmem S8192x1536 .bf16} {harg2 : arg2.IsWhole} {arg3 : Memref sig .tc .vmem S2x768x256 .i8}
  {harg3 : arg3.IsWhole} {arg4 : Memref sig .tc .vmem S96x2x256 .bf16} {harg4 : arg4.IsWhole} {arg5 : Memref sig .tc .vmem S2x96x256 .i8}
  {harg5 : arg5.IsWhole} {arg6 : Memref sig .tc .vmem S2x768x128 .i32} {harg6 : arg6.IsWhole} {arg7 : Memref sig .tc .vmem S2x768x128 .i32}
  {harg7 : arg7.IsWhole} {arg8 : Memref sig .tc .vmem S1024x256 .fp8e4m3} {harg8 : arg8.IsWhole} {arg9 : Memref sig .tc .vmem S2x2x4x8x128 .f32}
  {harg9 : arg9.IsWhole} {arg10 : Memref sig .tc .vmem S1536x512 .bf16} {harg10 : arg10.IsWhole}

/-- The first row blocks of the gate projection. -/
theorem part_gate_lo : k0_part241 (F := F) i arg2 harg2 arg3 harg3 arg4 harg4 arg5 harg5 arg6 harg6 arg7 harg7 arg8 harg8 arg9 harg9 arg10 harg10 = blocksProg arg3 arg4 arg5 arg6 arg10 harg10 0 12 0 := rfl
/-- The other row blocks of the gate projection. -/
theorem part_gate_hi : k0_part242 (F := F) i arg2 harg2 arg3 harg3 arg4 harg4 arg5 harg5 arg6 harg6 arg7 harg7 arg8 harg8 arg9 harg9 arg10 harg10 = blocksProg arg3 arg4 arg5 arg6 arg10 harg10 0 12 12 := rfl
/-- The first row blocks of the up projection. -/
theorem part_up_lo : k0_part243 (F := F) i arg2 harg2 arg3 harg3 arg4 harg4 arg5 harg5 arg6 harg6 arg7 harg7 arg8 harg8 arg9 harg9 arg10 harg10 = blocksProg arg3 arg4 arg5 arg7 arg10 harg10 1 12 0 := rfl
/-- The other row blocks of the up projection. -/
theorem part_up_hi : k0_part244 (F := F) i arg2 harg2 arg3 harg3 arg4 harg4 arg5 harg5 arg6 harg6 arg7 harg7 arg8 harg8 arg9 harg9 arg10 harg10 = blocksProg arg3 arg4 arg5 arg7 arg10 harg10 1 12 12 := rfl

/-- Whether the step is the first of its column block, as the kernel asks it. -/
abbrev first (i : grid0.Coords) : Prop := Scalar.cmpi .ne (Scalar.extui (Scalar.cmpi .eq (BitVec.ofNat 32 (i 1).val) 0#32) : BitVec 32) 0#32 = 1#1

/-- After the first step of a column block the printed body is the row blocks. -/
theorem body_later (h : ¬ first i) :
    cc0_gate_up_swiglu (F := F) i arg2 harg2 arg3 harg3 arg4 harg4 arg5 harg5 arg6 harg6 arg7 harg7 arg8 harg8 arg9 harg9 arg10 harg10 = restProg i arg2 arg8 harg8 arg9 arg10 := by
  unfold cc0_gate_up_swiglu k0_part245
  simp only [dif_neg h]
  rfl

/-- At the first step the weights are dequantised first. -/
theorem body_first (h : first i) :
    cc0_gate_up_swiglu (F := F) i arg2 harg2 arg3 harg3 arg4 harg4 arg5 harg5 arg6 harg6 arg7 harg7 arg8 harg8 arg9 harg9 arg10 harg10 = (do
      dequantProg arg3 arg4 arg5 arg6 arg7 arg10 harg10
      restProg i arg2 arg8 harg8 arg9 arg10) := by
  unfold cc0_gate_up_swiglu k0_part245 dequantProg
  simp only [dif_pos h, part_gate_lo, part_gate_hi, part_up_lo, part_up_hi, Prog.bind_assoc, bind_assoc]
  rfl

end Cert.Kernel
-- ==== Proof.Owned.lean ====
/- Loads and stores of a memref that is owned at known contents: a load reads them, a store overwrites a rectangle of them. -/
module

public import Idealize.ShloMosaic.Lib.Writes
public import Idealize.ShloMosaic.Lib.Memref
public import Idealize.ShloMosaic.Lib.Pipeline.FrameBody
public import Idealize.ShloMosaic.Lib.Tactic

@[expose] public section

noncomputable section

namespace Cert.Owned

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load reads the owned contents at the rectangle. -/
theorem wp_load {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e} :
    owns c m q X
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (Idealize.ShloMosaic.wp_load 𝒱 c bd E (hl := hl) (k := k) (Q := Q) (f := f) (q := q) (S := m.view.set) (m.view.setOn_subset_set _)) $$ H
  iintro H
  iapply Hk
  iexists f
  isplitr
  · ipureintro; rfl
  · iexact H

/-- A store of a whole rectangle leaves the contents overwritten there. -/
theorem wp_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (Idealize.ShloMosaic.wp_store 𝒱 c bd E (w := w) (hx := hx) (hm := hm) (k := k) (Q := Q) (Mk := Finset.univ) (f := f) (S := m.view.set)
    (Memref.setOn_access_subset m r Finset.univ)) $$ H
  iintro H
  iapply Hk
  iexists ((m.access r).write Val f w Finset.univ)
  isplitr
  · ipureintro
    funext y
    by_cases hy : y ∈ r.set
    · rw [← Rect.map_emb_univ] at hy
      obtain ⟨x, -, rfl⟩ := Finset.mem_map.mp hy
      rw [Rect.overlay_emb]
      exact View.read_slice_write_emb (v := m.view) r f w (Finset.mem_univ x)
    · rw [Rect.overlay_of_not_mem _ _ _ hy]
      exact View.read_slice_write_of_not_mem (v := m.view) r f w Finset.univ (by rw [Rect.map_emb_univ]; exact hy)
  · iexact H

end Cert.Owned
-- ==== Proof.Frame.lean ====
/- The frame of the kernel: from any memory it runs to its end, leaves its arguments as they were and every semaphore at
   zero. The body is run with every buffer at some contents: each load and each store keeps that. -/
module

public import proofs.«01_k».proof.Proof.BodyEq
public import proofs.«01_k».proof.Proof.Owned
public import proofs.«01_k».proof.Proof.Gen.Kernel.Frame
public import Idealize.ShloMosaic.Lib.Pipeline.Frame

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F]

attribute [local instance] Cert.Kernel.Gen.facts

local notation "𝕄" => MT nD τ sig Unit (Elt F) ℕ (UR sig nD τ) ℕ

/-- Memref m held whole at some contents. -/
abbrev held (c : Dev nD) {sp : Space} {s : Shape} {e : EltTy} (m : Memref sig .tc sp s e) : sProp 𝕄 :=
  iprop(∃ X, owns (c : Thread nD τ) m fullShare X)

/-- Program p runs to its end from R and gives R back. -/
def Keeps (c : Dev nD) (R : sProp 𝕄) (p : Prog (TpuEff nD τ sig (Elt F) Λ₀ .tc) PUnit) : Prop :=
  ∀ K : PUnit → sProp 𝕄, iprop(R ∗ (R -∗ K ⟨⟩)) ⊢ wp frame (wpE (defs₀ (F := F)) Variants.none c none) Set.univ p K

/-- Memref m is among what R holds, at some contents. -/
def Has (c : Dev nD) (R : sProp 𝕄) {sp : Space} {s : Shape} {e : EltTy} (m : Memref sig .tc sp s e) : Prop :=
  R ⊢ iprop(held (F := F) c m ∗ (held (F := F) c m -∗ R))

variable {c : Dev nD} {R : sProp (MT nD τ sig Unit (Elt F) ℕ (UR sig nD τ) ℕ)}

theorem Keeps.ret : Keeps c R (pure ⟨⟩) := fun K => by
  iintro ⟨H, Hk⟩
  iapply (le_wp_ret _ _)
  iapply Hk
  iexact H

theorem Keeps.bind {p q : Prog (TpuEff nD τ sig (Elt F) Λ₀ .tc) PUnit} (hp : Keeps c R p) (hq : Keeps c R q) : Keeps c R (p >>= fun _ => q) := fun K => by
  rw [wp_bind]
  refine BIBase.Entails.trans ?_ (hp _)
  iintro ⟨H, Hk⟩
  isplitl [H]; · iexact H
  iintro H
  iapply (hq K)
  isplitl [H]; · iexact H
  iexact Hk

theorem Keeps.load {cs : CoreSpace} {s : Shape} {e : EltTy} {m : Memref sig .tc cs s e} {r : Rect s} {hl : m.view.LoadsAt r.toLoadRect}
    {k : (r.toLoadRect.shape.Idx → Elt F e) → Prog (TpuEff nD τ sig (Elt F) Λ₀ .tc) PUnit} (hm : Has c R m) (hk : ∀ x, Keeps c R (k x)) :
    Keeps c R (.op (.load m r.toLoadRect hl) k) := fun K => by
  iintro ⟨H, Hk⟩
  ihave H2 := (show R ⊢ iprop(held (F := F) c m ∗ (held (F := F) c m -∗ R)) from hm) $$ H
  icases H2 with ⟨⟨%X, HX⟩, Hr⟩
  iapply (Owned.wp_load Variants.none (c : Thread nD τ) none Set.univ (hl := hl) (k := k) (X := X)) $$ HX
  iintro HX
  iapply (hk _ K)
  isplitl [HX Hr]
  · iapply Hr; iexists X; iexact HX
  iexact Hk

theorem Keeps.store {cs : CoreSpace} {s : Shape} {e : EltTy} {m : Memref sig .tc cs s e} {r : Rect s} {w : r.shape.Idx → Elt F e}
    {hx : (m.access r).Stores Finset.univ} {hu : Finset.univ = Finset.univ ∨ ∀ a, r.stride a = 1}
    {k : PUnit → Prog (TpuEff nD τ sig (Elt F) Λ₀ .tc) PUnit} (hm : Has c R m) (hk : Keeps c R (k ⟨⟩)) :
    Keeps c R (.op (.store m r w Finset.univ hx hu) k) := fun K => by
  iintro ⟨H, Hk⟩
  ihave H2 := (show R ⊢ iprop(held (F := F) c m ∗ (held (F := F) c m -∗ R)) from hm) $$ H
  icases H2 with ⟨⟨%X, HX⟩, Hr⟩
  iapply (Owned.wp_store Variants.none (c : Thread nD τ) none Set.univ (w := w) (hx := hx) (hm := hu) (k := k) (X := X)) $$ HX
  iintro HX
  iapply (hk K)
  isplitl [HX Hr]
  · iapply Hr; iexists _; iexact HX
  iexact Hk

section Body

variable (i : grid0.Coords) {arg2 : Memref sig .tc .vmem S8192x1536 .bf16} {arg3 : Memref sig .tc .vmem S2x768x256 .i8}
  {arg4 : Memref sig .tc .vmem S96x2x256 .bf16} {arg5 : Memref sig .tc .vmem S2x96x256 .i8}
  {o : Memref sig .tc .vmem S2x768x128 .i32} {arg8 : Memref sig .tc .vmem S1024x256 .fp8e4m3} {harg8 : arg8.IsWhole}
  {arg9 : Memref sig .tc .vmem S2x2x4x8x128 .f32} {arg10 : Memref sig .tc .vmem S1536x512 .bf16} {harg10 : arg10.IsWhole}
  (h2 : Has c R arg2) (h3 : Has c R arg3) (h4 : Has c R arg4) (h5 : Has c R arg5) (ho : Has c R o) (h8 : Has c R arg8) (h9 : Has c R arg9)
  (h10 : Has c R arg10)

include ho h10 in
theorem keeps_half (p k : Fin 2) (g : Fin 96) (d : FVec F S16x256 .bf16) : Keeps c R (halfProg o arg10 harg10 p k g d) :=
  .load ho fun _ => .load h10 fun _ => .store h10 .ret

include h4 ho h10 in
theorem keeps_group (p : Fin 2) (t : Fin 24) (q : Fin 4) (b z : Vec F S1x32x256 .i8) : Keeps c R (groupProg arg4 o arg10 harg10 p t q b z) :=
  .load h4 fun _ => .bind (keeps_half ho h10 _ _ _ _) (keeps_half ho h10 _ _ _ _)

include h3 h4 h5 ho h10 in
theorem keeps_block (p : Fin 2) (t : Fin 24) : Keeps c R (blockProg arg3 arg4 arg5 o arg10 harg10 p t) :=
  .load h3 fun _ => .load h5 fun _ => .bind (keeps_group h4 ho h10 _ _ _ _ _) <| .bind (keeps_group h4 ho h10 _ _ _ _ _) <|
    .bind (keeps_group h4 ho h10 _ _ _ _ _) (keeps_group h4 ho h10 _ _ _ _ _)

include h3 h4 h5 ho h10 in
theorem keeps_blocks (p : Fin 2) : ∀ n t, Keeps c R (blocksProg arg3 arg4 arg5 o arg10 harg10 p n t)
  | 0, _ => .ret
  | n + 1, t => by
    unfold blocksProg
    by_cases h : t < 24
    · rw [dif_pos h]; exact .bind (keeps_block h3 h4 h5 ho h10 p _) (keeps_blocks p n _)
    · rw [dif_neg h]; exact .bind .ret (keeps_blocks p n _)

include h9 in
theorem keeps_scale (m : Fin 4) (k r : Fin 2) (s : FVec F S256x1 .f32) : Keeps c R (scaleProg i arg9 m k r s) :=
  .load h9 fun _ => .store h9 .ret

include h8 h9 in
theorem keeps_cols (m : Fin 4) (k : Fin 2) (h : FVec F S256x128 .f32) : Keeps c R (colsProg i arg8 harg8 arg9 m k h) := by
  unfold colsProg
  simp only [Prog.bind_lift]
  exact .load h8 fun _ => .store h8 <| .bind (keeps_scale i h9 _ _ _ _) (keeps_scale i h9 _ _ _ _)

include h2 h8 h9 h10 in
theorem keeps_rows (m : Fin 4) : Keeps c R (rowsProg i arg2 arg8 harg8 arg9 arg10 m) := by
  unfold rowsProg
  simp only [Prog.bind_lift]
  exact .load h2 fun _ => .load h10 fun _ => .bind (keeps_cols i h8 h9 _ _ _) (keeps_cols i h8 h9 _ _ _)

include h2 h8 h9 h10 in
theorem keeps_rest : Keeps c R (restProg i arg2 arg8 harg8 arg9 arg10) :=
  .bind (keeps_rows i h2 h8 h9 h10 _) <| .bind (keeps_rows i h2 h8 h9 h10 _) <| .bind (keeps_rows i h2 h8 h9 h10 _) (keeps_rows i h2 h8 h9 h10 _)

end Body

end Cert.Kernel.Run
-- ==== Proof.FrameRun.lean ====
/- The frame of the kernel's whole run. -/
module

public import proofs.«01_k».proof.Proof.Frame

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F]

attribute [local instance] Cert.Kernel.Gen.facts

local notation "𝕄" => MT nD τ sig Unit (Elt F) ℕ (UR sig nD τ) ℕ

variable (m : (ℓ : Loc nD τ sig) → Buf (Elt F) ℓ) (ρ : Dev nD → PrngReg)

/-- The scratch, whole. -/
abbrev scr : Memref sig .tc .vmem S1536x512 .bf16 := Memref.whole cc0_scratch0

/-- What the body holds at a point: the staging buffers and the scratch, each at some contents. -/
def Held (c : Dev nD) (t : Fin cfg0.N) : sProp 𝕄 :=
  iprop(held (F := F) c (win0_0.stage (cfg0.slots t 0)) ∗ held (F := F) c (win0_1.stage (cfg0.slots t 1)) ∗ held (F := F) c (win0_2.stage (cfg0.slots t 2))
    ∗ held (F := F) c (win0_3.stage (cfg0.slots t 3)) ∗ held (F := F) c (win0_4.stage (cfg0.slots t 4)) ∗ held (F := F) c (win0_5.stage (cfg0.slots t 5))
    ∗ held (F := F) c (win0_6.stage (cfg0.slots t 6)) ∗ held (F := F) c (win0_7.stage (cfg0.slots t 7)) ∗ held (F := F) c scr)

/-- The body at a point keeps what it holds. -/
theorem keeps_body (c : Dev nD) (t : Fin cfg0.N) : Keeps (F := F) c (Held c t) (bodyAt0 t) := by
  have h0 : Has (F := F) c (Held c t) (win0_0.stage (cfg0.slots t 0)) := by
    unfold Has Held; iintro ⟨H0, H1, H2, H3, H4, H5, H6, H7, H8⟩; isplitl [H0]; · iexact H0
    iintro H0; iframe
  have h1 : Has (F := F) c (Held c t) (win0_1.stage (cfg0.slots t 1)) := by
    unfold Has Held; iintro ⟨H0, H1, H2, H3, H4, H5, H6, H7, H8⟩; isplitl [H1]; · iexact H1
    iintro H1; iframe
  have h2 : Has (F := F) c (Held c t) (win0_2.stage (cfg0.slots t 2)) := by
    unfold Has Held; iintro ⟨H0, H1, H2, H3, H4, H5, H6, H7, H8⟩; isplitl [H2]; · iexact H2
    iintro H2; iframe
  have h3 : Has (F := F) c (Held c t) (win0_3.stage (cfg0.slots t 3)) := by
    unfold Has Held; iintro ⟨H0, H1, H2, H3, H4, H5, H6, H7, H8⟩; isplitl [H3]; · iexact H3
    iintro H3; iframe
  have h4 : Has (F := F) c (Held c t) (win0_4.stage (cfg0.slots t 4)) := by
    unfold Has Held; iintro ⟨H0, H1, H2, H3, H4, H5, H6, H7, H8⟩; isplitl [H4]; · iexact H4
    iintro H4; iframe
  have h5 : Has (F := F) c (Held c t) (win0_5.stage (cfg0.slots t 5)) := by
    unfold Has Held; iintro ⟨H0, H1, H2, H3, H4, H5, H6, H7, H8⟩; isplitl [H5]; · iexact H5
    iintro H5; iframe
  have h6 : Has (F := F) c (Held c t) (win0_6.stage (cfg0.slots t 6)) := by
    unfold Has Held; iintro ⟨H0, H1, H2, H3, H4, H5, H6, H7, H8⟩; isplitl [H6]; · iexact H6
    iintro H6; iframe
  have h7 : Has (F := F) c (Held c t) (win0_7.stage (cfg0.slots t 7)) := by
    unfold Has Held; iintro ⟨H0, H1, H2, H3, H4, H5, H6, H7, H8⟩; isplitl [H7]; · iexact H7
    iintro H7; iframe
  have h8 : Has (F := F) c (Held c t) scr := by
    unfold Has Held; iintro ⟨H0, H1, H2, H3, H4, H5, H6, H7, H8⟩; isplitl [H8]; · iexact H8
    iintro H8; iframe
  unfold bodyAt0
  by_cases hf : first (grid0.coords t)
  · rw [body_first hf]
    unfold dequantProg
    exact .bind (.bind (keeps_blocks h1 h2 h3 h4 h8 _ _ _) <| .bind (keeps_blocks h1 h2 h3 h4 h8 _ _ _) <|
      .bind (keeps_blocks h1 h2 h3 h5 h8 _ _ _) (keeps_blocks h1 h2 h3 h5 h8 _ _ _)) (keeps_rest _ h0 h6 h7 h8)
  · rw [body_later hf]
    exact keeps_rest _ h0 h6 h7 h8

/-- Nothing is said of what any window holds. -/
def forgets : Fin 8 → Bool := fun _ => true

/-- The proof data: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with and what it returns. -/
def around (c : Dev nD) (t : Fin cfg0.N) (u : Fin (cfg0.N + 1)) : sProp 𝕄 :=
  iprop((dats m 0 c).Φ u ∗ (dats m 0 c).owesAt () u
    ∗ (∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X))

theorem sound_body (c : Dev nD) (t : Fin cfg0.N) :
    around m c t t.castSucc ⊢ wp frame (wpE (defs₀ (F := F)) Variants.none c none) Set.univ (bodyAt0 t) (fun _ => around m c t t.succ) := by
  have hsc : (iprop(∃ f : Buf (Elt F) ((c : Thread nD τ).loc cc0_scratch0), ((c : Thread nD τ).loc cc0_scratch0) ↦{fullShare} f) : sProp 𝕄)
      = held (F := F) c scr := by
    simp only [scr, held, owns_whole]; rfl
  unfold around
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq, hsc]
  iintro ⟨⟨HS, Hg⟩, HO, H0, H1, H2, H3, H4, H5, H6, H7⟩
  iapply (keeps_body (F := F) c t _)
  isplitl [HS H0 H1 H2 H3 H4 H5 H6 H7]
  · unfold Held; iframe
  unfold Held
  iintro ⟨H0, H1, H2, H3, H4, H5, H6, H7, HS⟩
  iframe

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The arguments end as they were, and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 5 rfl).trans ((A_eq m c 5).trans (V_main_arg4 m c))⟩, h.2⟩) (run_main m ρ)

end Cert.Kernel.Run
-- ==== Proof.Ideal.Dequant.lean ====
/- The dequantisation of the weights, written as one block repeated: 24 row blocks of each of the two projections, each
   block four groups of 16 rows, each group stored in two halves of 128 columns. -/
module

public import proofs.«01_k».proof.Proof.Gen.KernelIdeal

@[expose] public section

noncomputable section

namespace Cert.KernelIdeal

open Idealize.ShloMosaic Idealize.SL.Sem
open Cert.KernelIdeal.Gen

variable {F : FTy → Type} [FloatOps F]

theorem slice_word (q : Fin 4) : S32x256.Slices ![8 * q.1, 0] S8x256 := by revert q; decide
theorem slice_zero (r : Fin 32) : S32x256.Slices ![r.1, 0] S1x256 := by revert r; decide
theorem inb_wp (p : Fin 2) (t : Fin 24) : ∀ a, (![p.1, 32 * t.1, 0] : Fin 3 → Nat) a + S1x32x256.size a ≤ S2x768x256.size a := by
  revert p t; decide
theorem inb_wz (p : Fin 2) (t : Fin 24) : ∀ a, (![p.1, 32 * (t.1 / 8), 0] : Fin 3 → Nat) a + S1x32x256.size a ≤ S2x96x256.size a := by
  revert p t; decide
theorem inb_ws (g : Fin 96) : ∀ a, (![g.1, 0, 0] : Fin 3 → Nat) a + S1x2x256.size a ≤ S96x2x256.size a := by
  revert g; decide
theorem inb_out (c : Fin 2) (g : Fin 96) : ∀ a, (![c.1, 8 * g.1, 0] : Fin 3 → Nat) a + S1x8x128.size a ≤ S2x768x128.size a := by
  revert c g; decide
theorem inb_scr (p c : Fin 2) (g : Fin 96) : ∀ a, (![16 * g.1, 256 * p.1 + 128 * c.1] : Fin 2 → Nat) a + S16x128.size a ≤ S1536x512.size a := by
  revert p c g; decide
theorem slice_half (c : Fin 2) : S16x256.Slices ![0, 128 * c.1] S16x128 := by revert c; decide
theorem packed_scr (p c : Fin 2) (g : Fin 96) :
    (Rect.unit (s := S1536x512) ![16 * g.1, 256 * p.1 + 128 * c.1] S16x128.size (inb_scr p c g)).PackedRows (EltTy.packing .bf16) := by
  revert p c g; decide

/-- The bits of 128 + code of 16 rows, two rows to a word. -/
def word (b : IVec S32x256 32) (q : Fin 4) : IVec S8x256 32 :=
  ori (ori (andi (extractStridedSlice S8x256 ![8 * q.1, 0] b (slice_word q)) (broadcast S8x256 15#32))
    (shli (andi (extractStridedSlice S8x256 ![8 * q.1, 0] b (slice_word q)) (broadcast S8x256 240#32)) (broadcast S8x256 12#32)))
    (broadcast S8x256 1124090624#32)

/-- The bits of 128 + zero of one group's zero points, twice in a word. -/
def zeroRow (z : IVec S32x256 32) (r : Fin 32) : IVec S1x256 32 :=
  ori (extractStridedSlice S1x256 ![r.1, 0] z (slice_zero r)) (broadcast S1x256 17152#32)

/-- One group's zero points over the group's rows. -/
def zero (z : IVec S32x256 32) (r : Fin 32) : IVec S8x256 32 :=
  broadcastTo S8x256 (shapeCast S1x256 (ori (zeroRow z r) (shli (zeroRow z r) (broadcast S1x256 16#32))) shapeCasts_S1x256_S1x256)
    broadcasts_S1x256_S8x256

/-- The scales of projection p of one group. -/
def scaleOf (p : Fin 2) (s : Vec F S1x2x256 .bf16) : FVec F S1x256 .bf16 :=
  match p with
  | 0 => shapeCast S1x256 (rowsOfParity 0 S1x1x256 s bitcasts_S1x2x256_w16_S1x1x256_w32 : FVec F S1x1x256 .bf16) shapeCasts_S1x1x256_S1x256
  | 1 => shapeCast S1x256 (rowsOfParity 1 S1x1x256 s bitcasts_S1x2x256_w16_S1x1x256_w32 : FVec F S1x1x256 .bf16) shapeCasts_S1x1x256_S1x256

/-- One group's scales over the group's rows. -/
def scaleRows (p : Fin 2) (s : Vec F S1x2x256 .bf16) : FVec F S16x256 .bf16 :=
  have w := scaleOf p s
  have w4 : FVec F S4x256 .bf16 := concatenate S4x256 0 [⟨S1x256, w⟩, ⟨S1x256, w⟩, ⟨S1x256, w⟩, ⟨S1x256, w⟩] concatenates_S1x256_S1x256_S1x256_S1x256_S4x256_d0
  have v : FVec F S8x256 .bf16 := interleaveRows S8x256 w4 w4 bitcasts_S8x256_w16_S4x256_w32
  concatenate S16x256 0 [⟨S8x256, v⟩, ⟨S8x256, v⟩] concatenates_S8x256_S8x256_S16x256_d0

/-- (code - zero) * scale of one group. -/
def deq (p : Fin 2) (q : Fin 4) (r : Fin 32) (b z : Vec F S1x32x256 .i8) (s : Vec F S1x2x256 .bf16) : FVec F S16x256 .bf16 :=
  mulf (subf (bitcastToFloat .bf16 (bitcast S16x256 16 (word (extui 32 (shapeCast S32x256 b shapeCasts_S1x32x256_S32x256 : IVec S32x256 8) natLt_8_32) q) bitcasts_S8x256_w32_S16x256_w16))
    (bitcastToFloat .bf16 (bitcast S16x256 16 (zero (extui 32 (shapeCast S32x256 z shapeCasts_S1x32x256_S32x256 : IVec S32x256 8) natLt_8_32) r) bitcasts_S8x256_w32_S16x256_w16)))
    (scaleRows p s)

/-- Half a group: 128 columns, the outliers added. -/
def half (c : Fin 2) (d : FVec F S16x256 .bf16) (o : Vec F S1x8x128 .i32) : FVec F S16x128 .bf16 :=
  shapeCast S16x128 (addf (extractStridedSlice S16x128 ![0, 128 * c.1] d (slice_half c))
    (bitcastToFloat .bf16 (bitcast S16x128 16 (shapeCast S8x128 o shapeCasts_S1x8x128_S8x128 : IVec S8x128 32) bitcasts_S8x128_w32_S16x128_w16)))
    shapeCasts_S16x128_S16x128

variable (arg3 : Memref sig .tc .vmem S2x768x256 .i8) (arg4 : Memref sig .tc .vmem S96x2x256 .bf16)
  (arg5 : Memref sig .tc .vmem S2x96x256 .i8) (o : Memref sig .tc .vmem S2x768x128 .i32)
  (arg10 : Memref sig .tc .vmem S1536x512 .bf16) (harg10 : arg10.IsWhole)

/-- One half of group g: its outliers read, its weights stored. -/
def halfProg (p c : Fin 2) (g : Fin 96) (d : FVec F S16x256 .bf16) : Prog (TpuEff nD τ sig (Elt F) Λ₀ .tc) PUnit := do
  let w ← Prog.lift (.load o (Rect.unit (s := S2x768x128) ![c.1, 8 * g.1, 0] S1x8x128.size (inb_out c g)).toLoadRect (View.loadsAt_vmem h_S1x8x128))
  let _ ← Prog.lift (.load arg10 (Rect.unit (s := S1536x512) ![16 * g.1, 256 * p.1 + 128 * c.1] S16x128.size (inb_scr p c g)).toLoadRect (View.loadsAt_vmem h_S16x128))
  Prog.lift (.store arg10 (Rect.unit (s := S1536x512) ![16 * g.1, 256 * p.1 + 128 * c.1] S16x128.size (inb_scr p c g)) (half c d w) Finset.univ
    (View.stores_vmem h_S16x128 (harg10.storeExact_slice rfl _ (packed_scr p c g)) (fun _ => rfl)) (.inl rfl))

/-- Group q of row block t. -/
def groupProg (p : Fin 2) (t : Fin 24) (q : Fin 4) (b z : Vec F S1x32x256 .i8) : Prog (TpuEff nD τ sig (Elt F) Λ₀ .tc) PUnit := do
  let s ← Prog.lift (.load arg4 (Rect.unit (s := S96x2x256) ![4 * t.1 + q.1, 0, 0] S1x2x256.size (inb_ws ⟨4 * t.1 + q.1, by omega⟩)).toLoadRect (View.loadsAt_vmem h_S1x2x256))
  halfProg o arg10 harg10 p 0 ⟨4 * t.1 + q.1, by omega⟩ (deq p q ⟨(4 * t.1 + q.1) % 32, Nat.mod_lt _ (by decide)⟩ b z s)
  halfProg o arg10 harg10 p 1 ⟨4 * t.1 + q.1, by omega⟩ (deq p q ⟨(4 * t.1 + q.1) % 32, Nat.mod_lt _ (by decide)⟩ b z s)

/-- Row block t of projection p. -/
def blockProg (p : Fin 2) (t : Fin 24) : Prog (TpuEff nD τ sig (Elt F) Λ₀ .tc) PUnit := do
  let b ← Prog.lift (.load arg3 (Rect.unit (s := S2x768x256) ![p.1, 32 * t.1, 0] S1x32x256.size (inb_wp p t)).toLoadRect (View.loadsAt_vmem h_S1x32x256))
  let z ← Prog.lift (.load arg5 (Rect.unit (s := S2x96x256) ![p.1, 32 * (t.1 / 8), 0] S1x32x256.size (inb_wz p t)).toLoadRect (View.loadsAt_vmem h_S1x32x256))
  groupProg arg4 o arg10 harg10 p t 0 b z
  groupProg arg4 o arg10 harg10 p t 1 b z
  groupProg arg4 o arg10 harg10 p t 2 b z
  groupProg arg4 o arg10 harg10 p t 3 b z

/-- The row blocks from t on. -/
def blocksProg (p : Fin 2) : (n : Nat) → (t : Nat) → Prog (TpuEff nD τ sig (Elt F) Λ₀ .tc) PUnit
  | 0, _ => pure ⟨⟩
  | n + 1, t => do
    if h : t < 24 then blockProg arg3 arg4 arg5 o arg10 harg10 p ⟨t, h⟩
    blocksProg p n (t + 1)

end Cert.KernelIdeal
-- ==== Proof.Ideal.Body.lean ====
/- The body of the kernel at one grid point, written with its loops: at the first step of a column block the weights are
   dequantised, then four row blocks of 256 rows are computed, each in two halves of 128 columns. -/
module

public import proofs.«01_k».proof.Proof.Ideal.Dequant

@[expose] public section

noncomputable section

namespace Cert.KernelIdeal

open Idealize.ShloMosaic Idealize.SL.Sem
open Cert.KernelIdeal.Gen

variable {F : FTy → Type} [FloatOps F]

attribute [local instance] Cert.KernelIdeal.Gen.facts

theorem inb_codes (m : Fin 4) (c : Fin 2) : ∀ a, (![256 * m.1, 128 * c.1] : Fin 2 → Nat) a + S256x128.size a ≤ S1024x256.size a := by
  revert m c; decide
theorem packed_codes (m : Fin 4) (c : Fin 2) :
    (Rect.unit (s := S1024x256) ![256 * m.1, 128 * c.1] S256x128.size (inb_codes m c)).PackedRows (EltTy.packing .fp8e4m3) := by
  revert m c; decide
theorem slice_cols (c : Fin 2) : S256x256.Slices ![0, 128 * c.1] S256x128 := by revert c; decide
theorem slice_rows (r : Fin 2) : S256x1.Slices ![128 * r.1, 0] S128x1 := by revert r; decide

/-- The products of a row block: gate columns, then up columns. -/
def acc (x : Vec F S256x1536 .bf16) (w : Vec F S1536x512 .bf16) : FVec F S256x512 .f32 :=
  matmul (φ₂ := .bf16) dot_S256x1536_S1536x512_S256x512_1_0_0_1_n_n none (shapeCast S256x1536 x shapeCasts_S256x1536_S256x1536 : FVec F S256x1536 .bf16) w
    (constant S256x512 .f32 0x00000000#32)

/-- silu(gate) * up of a row block. -/
def act (v : FVec F S256x512 .f32) : FVec F S256x256 .f32 :=
  have g := extractStridedSlice S256x256 ![0, 0] v slices_S256x512_o0_0_S256x256
  mulf (divf g (addf (broadcast S256x256 (Scalar.ofBits .f32 0x3F800000#32)) (exp (subf (broadcast S256x256 (Scalar.ofBits .f32 0x00000000#32)) g))))
    (extractStridedSlice S256x256 ![0, 256] v slices_S256x512_o0_256_S256x256)

/-- Half the columns of a row block. -/
def cols (c : Fin 2) (h : FVec F S256x256 .f32) : FVec F S256x128 .f32 :=
  extractStridedSlice S256x128 ![0, 128 * c.1] h (slice_cols c)

/-- The largest absolute value of each row, over 448. -/
def rowMax (h : FVec F S256x128 .f32) : FVec F S256x1 .f32 :=
  mulf (shapeCast S256x1 (multiReduction .maximumf [1] S256 (absf h) 0xFF800000#32 reduces_S256x128_S256 (.inl rfl) rfl) shapeCasts_S256_S256x1)
    (broadcast S256x1 (Scalar.ofBits .f32 0x3B124925#32))

/-- One bit of the exponent field: kept when the power of two it makes is at most y. -/
def bitStep (y : FVec F S256x1 .f32) (b : BitVec 32) (e : IVec S256x1 32) : IVec S256x1 32 :=
  select (cmpf .oge y (bitcastToFloat .f32 (ori e (broadcast S256x1 b)))) (ori e (broadcast S256x1 b)) e

/-- The exponent field of y. -/
def field (y : FVec F S256x1 .f32) : IVec S256x1 32 :=
  bitStep y 8388608#32 (bitStep y 16777216#32 (bitStep y 33554432#32 (bitStep y 67108864#32 (bitStep y 134217728#32
    (bitStep y 268435456#32 (bitStep y 536870912#32 (bitStep y 1073741824#32 (broadcast S256x1 0#32))))))))

/-- The exponent field, 126 where it is 0 or all ones. -/
def expo (h : FVec F S256x128 .f32) : IVec S256x1 32 :=
  have e := field (rowMax h)
  select (ori (cmpi .eq e (broadcast S256x1 0#32)) (cmpi .eq e (broadcast S256x1 2139095040#32))) (broadcast S256x1 1056964608#32) e

/-- Each row's scale. -/
def scales (h : FVec F S256x128 .f32) : FVec F S256x1 .f32 :=
  bitcastToFloat .f32 (addi (expo h) (broadcast S256x1 8388608#32))

/-- The quantised values of half a row block. -/
def codes (h : FVec F S256x128 .f32) : FVec F S256x128 .fp8e4m3 :=
  truncf .fp8e4m3 (minimumf (broadcast S256x128 (Scalar.ofBits .f32 0x43E00000#32)) (maximumf (broadcast S256x128 (Scalar.ofBits .f32 0xC3E00000#32))
    (mulf h (broadcastTo S256x128 (bitcastToFloat .f32 (subi (broadcast S256x1 2122317824#32) (expo h)) : FVec F S256x1 .f32) broadcasts_S256x1_S256x128))))
    bitsLt_fp8e4m3_f32

/-- The scales of 128 rows laid out along a row: the sum over the diagonal matrix they make. -/
def scaleRow (r : Fin 2) (s : FVec F S256x1 .f32) : FVec F S1x1x1x1x128 .f32 :=
  shapeCast S1x1x1x1x128 (shapeCast S1x128 (multiReduction .add [0] S128
    (select (cmpi .eq (iota .tc S128x128 32 [0] iota_S128x128_d0_w32) (iota .tc S128x128 32 [1] iota_S128x128_d1_w32))
      (broadcastTo S128x128 (shapeCast S128x1 (extractStridedSlice S128x1 ![128 * r.1, 0] s (slice_rows r)) shapeCasts_S128x1_S128x1) broadcasts_S128x1_S128x128)
      (broadcast S128x128 (Scalar.ofBits .f32 0x00000000#32))) 0x00000000#32 reduces_S128x128_S128 (.inl rfl) rfl : FVec F S128 .f32) shapeCasts_S128_S1x128)
    shapeCasts_S1x128_S1x1x1x1x128

/-- The batch of half a grid step. -/
def batch (i1 : Nat) (b : BitVec 32) : BitVec 32 := Scalar.addi (Scalar.muli (BitVec.ofNat 32 i1) 2#32) b

/-- Its quotient by 8. -/
def batchHi (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 8#32 0#32)) (Scalar.extui (Scalar.cmpi .slt 8#32 0#32))))
    (Scalar.cmpi .ne (Scalar.remsi v 8#32) 0#32))
    (Scalar.subi (Scalar.divsi v 8#32) 1#32) (Scalar.divsi v 8#32)

/-- Its remainder by 8. -/
def batchLo (v : BitVec 32) : BitVec 32 :=
  have d : BitVec 32 := Scalar.select (Scalar.cmpi .eq 8#32 0#32) 1#32 8#32
  have w := Scalar.remsi v d
  Scalar.select (Scalar.andi (Scalar.xori (Scalar.cmpi .slt w 0#32) (Scalar.cmpi .slt d 0#32)) (Scalar.cmpi .ne w 0#32)) (Scalar.addi w d) w

/-- Where the scales of 128 rows go, as the kernel computes it. -/
def scaleOff (i : grid0.Coords) (m : Fin 4) (c r : Fin 2) : Fin 5 → Nat :=
  ![c.1, (Scalar.indexCast (batchHi (batch (i 1).val (BitVec.ofNat 32 (m.1 / 2))))).toNat, 2 * (m.1 % 2) + r.1,
    (Scalar.indexCast (batchLo (batch (i 1).val (BitVec.ofNat 32 (m.1 / 2))))).toNat, 0]

theorem scaleOff_eq (i : grid0.Coords) (m : Fin 4) (c r : Fin 2) :
    scaleOff i m c r = ![c.1, (i 1).val / 4, 2 * (m.1 % 2) + r.1, (2 * (i 1).val + m.1 / 2) % 8, 0] := by
  have h : ∀ (k : Fin 8) (m : Fin 4), (Scalar.indexCast (batchHi (batch k.1 (BitVec.ofNat 32 (m.1 / 2))))).toNat = k.1 / 4 ∧
      (Scalar.indexCast (batchLo (batch k.1 (BitVec.ofNat 32 (m.1 / 2))))).toNat = (2 * k.1 + m.1 / 2) % 8 := by decide
  obtain ⟨h1, h2⟩ := h (i 1) m
  rw [scaleOff]
  exact congrArg₂ (fun a b => ![c.1, a, 2 * (m.1 % 2) + r.1, b, 0]) h1 h2

theorem scaleOff_inb (i : grid0.Coords) (m : Fin 4) (c r : Fin 2) : ∀ a, scaleOff i m c r a + S1x1x1x1x128.size a ≤ S2x2x4x8x128.size a := by
  rw [scaleOff_eq]
  have hi : (i 1).val < 8 := (i 1).isLt
  generalize (i 1).val = k at hi
  intro a; fin_cases a <;> simp [S1x1x1x1x128, S2x2x4x8x128] <;> omega

variable (i : grid0.Coords) (arg2 : Memref sig .tc .vmem S8192x1536 .bf16) (arg3 : Memref sig .tc .vmem S2x768x256 .i8)
  (arg4 : Memref sig .tc .vmem S96x2x256 .bf16) (arg5 : Memref sig .tc .vmem S2x96x256 .i8)
  (arg6 arg7 : Memref sig .tc .vmem S2x768x128 .i32) (arg8 : Memref sig .tc .vmem S1024x256 .fp8e4m3) (harg8 : arg8.IsWhole)
  (arg9 : Memref sig .tc .vmem S2x2x4x8x128 .f32) (arg10 : Memref sig .tc .vmem S1536x512 .bf16) (harg10 : arg10.IsWhole)

/-- The scales of 128 rows stored. -/
def scaleProg (m : Fin 4) (c r : Fin 2) (s : FVec F S256x1 .f32) : Prog (TpuEff nD τ sig (Elt F) Λ₀ .tc) PUnit := do
  let _ ← Prog.lift (.load arg9 (Rect.unit (s := S2x2x4x8x128) (scaleOff i m c r) S1x1x1x1x128.size (scaleOff_inb i m c r)).toLoadRect (View.loadsAt_vmem h_S1x1x1x1x128))
  Prog.lift (.store arg9 (Rect.unit (s := S2x2x4x8x128) (scaleOff i m c r) S1x1x1x1x128.size (scaleOff_inb i m c r)) (scaleRow r s) Finset.univ
    (View.stores_vmem_bits_univ h_S1x1x1x1x128 rfl) (.inl rfl))

/-- Half the columns of a row block stored. -/
def colsProg (m : Fin 4) (c : Fin 2) (h : FVec F S256x128 .f32) : Prog (TpuEff nD τ sig (Elt F) Λ₀ .tc) PUnit := do
  let _ ← Prog.lift (.load arg8 (Rect.unit (s := S1024x256) ![256 * m.1, 128 * c.1] S256x128.size (inb_codes m c)).toLoadRect (View.loadsAt_vmem h_S256x128))
  Prog.lift (.store arg8 (Rect.unit (s := S1024x256) ![256 * m.1, 128 * c.1] S256x128.size (inb_codes m c)) (codes h) Finset.univ
    (View.stores_vmem h_S256x128 (harg8.storeExact_slice rfl _ (packed_codes m c)) (fun _ => rfl)) (.inl rfl))
  scaleProg i arg9 m c 0 (scales h)
  scaleProg i arg9 m c 1 (scales h)

/-- A row block. -/
def rowsProg (m : Fin 4) : Prog (TpuEff nD τ sig (Elt F) Λ₀ .tc) PUnit := do
  let x ← Prog.lift (.load arg2 (Rect.unit (s := S8192x1536) (k0_off1 i (BitVec.ofNat 32 (256 * m.1))) S256x1536.size (k0_off1_inb i m)).toLoadRect (View.loadsAt_vmem h_S256x1536))
  let w ← Prog.lift (.load arg10 (Rect.unit (s := S1536x512) ![0, 0] S1536x512.size inb_S1536x512_S1536x512_0_0).toLoadRect (View.loadsAt_vmem h_S1536x512))
  colsProg i arg8 harg8 arg9 m 0 (cols 0 (act (acc x w)))
  colsProg i arg8 harg8 arg9 m 1 (cols 1 (act (acc x w)))

/-- The weights dequantised. -/
def dequantProg : Prog (TpuEff nD τ sig (Elt F) Λ₀ .tc) PUnit := do
  blocksProg arg3 arg4 arg5 arg6 arg10 harg10 0 12 0
  blocksProg arg3 arg4 arg5 arg6 arg10 harg10 0 12 12
  blocksProg arg3 arg4 arg5 arg7 arg10 harg10 1 12 0
  blocksProg arg3 arg4 arg5 arg7 arg10 harg10 1 12 12

/-- The row blocks. -/
def restProg : Prog (TpuEff nD τ sig (Elt F) Λ₀ .tc) PUnit := do
  rowsProg i arg2 arg8 harg8 arg9 arg10 0
  rowsProg i arg2 arg8 harg8 arg9 arg10 1
  rowsProg i arg2 arg8 harg8 arg9 arg10 2
  rowsProg i arg2 arg8 harg8 arg9 arg10 3

end Cert.KernelIdeal
-- ==== Proof.Ideal.BodyEq.lean ====
/- The printed body is the body written with its loops. -/
module

public import proofs.«01_k».proof.Proof.Ideal.Body

@[expose] public section

noncomputable section

namespace Cert.KernelIdeal

open Idealize.ShloMosaic Idealize.SL.Sem
open Cert.KernelIdeal.Gen

variable {F : FTy → Type} [FloatOps F]

attribute [local instance] Cert.KernelIdeal.Gen.facts

set_option maxRecDepth 100000
set_option maxHeartbeats 4000000

variable {i : grid0.Coords} {arg2 : Memref sig .tc .vmem S8192x1536 .bf16} {harg2 : arg2.IsWhole} {arg3 : Memref sig .tc .vmem S2x768x256 .i8}
  {harg3 : arg3.IsWhole} {arg4 : Memref sig .tc .vmem S96x2x256 .bf16} {harg4 : arg4.IsWhole} {arg5 : Memref sig .tc .vmem S2x96x256 .i8}
  {harg5 : arg5.IsWhole} {arg6 : Memref sig .tc .vmem S2x768x128 .i32} {harg6 : arg6.IsWhole} {arg7 : Memref sig .tc .vmem S2x768x128 .i32}
  {harg7 : arg7.IsWhole} {arg8 : Memref sig .tc .vmem S1024x256 .fp8e4m3} {harg8 : arg8.IsWhole} {arg9 : Memref sig .tc .vmem S2x2x4x8x128 .f32}
  {harg9 : arg9.IsWhole} {arg10 : Memref sig .tc .vmem S1536x512 .bf16} {harg10 : arg10.IsWhole}

/-- The first row blocks of the gate projection. -/
theorem part_gate_lo : k0_part241 (F := F) i arg2 harg2 arg3 harg3 arg4 harg4 arg5 harg5 arg6 harg6 arg7 harg7 arg8 harg8 arg9 harg9 arg10 harg10 = blocksProg arg3 arg4 arg5 arg6 arg10 harg10 0 12 0 := rfl
/-- The other row blocks of the gate projection. -/
theorem part_gate_hi : k0_part242 (F := F) i arg2 harg2 arg3 harg3 arg4 harg4 arg5 harg5 arg6 harg6 arg7 harg7 arg8 harg8 arg9 harg9 arg10 harg10 = blocksProg arg3 arg4 arg5 arg6 arg10 harg10 0 12 12 := rfl
/-- The first row blocks of the up projection. -/
theorem part_up_lo : k0_part243 (F := F) i arg2 harg2 arg3 harg3 arg4 harg4 arg5 harg5 arg6 harg6 arg7 harg7 arg8 harg8 arg9 harg9 arg10 harg10 = blocksProg arg3 arg4 arg5 arg7 arg10 harg10 1 12 0 := rfl
/-- The other row blocks of the up projection. -/
theorem part_up_hi : k0_part244 (F := F) i arg2 harg2 arg3 harg3 arg4 harg4 arg5 harg5 arg6 harg6 arg7 harg7 arg8 harg8 arg9 harg9 arg10 harg10 = blocksProg arg3 arg4 arg5 arg7 arg10 harg10 1 12 12 := rfl

/-- Whether the step is the first of its column block, as the kernel asks it. -/
abbrev first (i : grid0.Coords) : Prop := Scalar.cmpi .ne (Scalar.extui (Scalar.cmpi .eq (BitVec.ofNat 32 (i 1).val) 0#32) : BitVec 32) 0#32 = 1#1

/-- After the first step of a column block the printed body is the row blocks. -/
theorem body_later (h : ¬ first i) :
    cc0_gate_up_swiglu (F := F) i arg2 harg2 arg3 harg3 arg4 harg4 arg5 harg5 arg6 harg6 arg7 harg7 arg8 harg8 arg9 harg9 arg10 harg10 = restProg i arg2 arg8 harg8 arg9 arg10 := by
  unfold cc0_gate_up_swiglu k0_part245
  simp only [dif_neg h]
  rfl

/-- At the first step the weights are dequantised first. -/
theorem body_first (h : first i) :
    cc0_gate_up_swiglu (F := F) i arg2 harg2 arg3 harg3 arg4 harg4 arg5 harg5 arg6 harg6 arg7 harg7 arg8 harg8 arg9 harg9 arg10 harg10 = (do
      dequantProg arg3 arg4 arg5 arg6 arg7 arg10 harg10
      restProg i arg2 arg8 harg8 arg9 arg10) := by
  unfold cc0_gate_up_swiglu k0_part245 dequantProg
  simp only [dif_pos h, part_gate_lo, part_gate_hi, part_up_lo, part_up_hi, Prog.bind_assoc, bind_assoc]
  rfl

end Cert.KernelIdeal
-- ==== Proof.Ideal.Frame.lean ====
/- The frame of the kernel: from any memory it runs to its end, leaves its arguments as they were and every semaphore at
   zero. The body is run with every buffer at some contents: each load and each store keeps that. -/
module

public import proofs.«01_k».proof.Proof.Ideal.BodyEq
public import proofs.«01_k».proof.Proof.Owned
public import proofs.«01_k».proof.Proof.Gen.KernelIdeal.Frame
public import Idealize.ShloMosaic.Lib.Pipeline.Frame

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

attribute [local instance] Cert.KernelIdeal.Gen.facts

local notation "𝕄" => MT nD τ sig Unit (Elt F) ℕ (UR sig nD τ) ℕ

/-- Memref m held whole at some contents. -/
abbrev held (c : Dev nD) {sp : Space} {s : Shape} {e : EltTy} (m : Memref sig .tc sp s e) : sProp 𝕄 :=
  iprop(∃ X, owns (c : Thread nD τ) m fullShare X)

/-- Program p runs to its end from R and gives R back. -/
def Keeps (c : Dev nD) (R : sProp 𝕄) (p : Prog (TpuEff nD τ sig (Elt F) Λ₀ .tc) PUnit) : Prop :=
  ∀ K : PUnit → sProp 𝕄, iprop(R ∗ (R -∗ K ⟨⟩)) ⊢ wp frame (wpE (defs₀ (F := F)) Variants.none c none) Set.univ p K

/-- Memref m is among what R holds, at some contents. -/
def Has (c : Dev nD) (R : sProp 𝕄) {sp : Space} {s : Shape} {e : EltTy} (m : Memref sig .tc sp s e) : Prop :=
  R ⊢ iprop(held (F := F) c m ∗ (held (F := F) c m -∗ R))

variable {c : Dev nD} {R : sProp (MT nD τ sig Unit (Elt F) ℕ (UR sig nD τ) ℕ)}

theorem Keeps.ret : Keeps c R (pure ⟨⟩) := fun K => by
  iintro ⟨H, Hk⟩
  iapply (le_wp_ret _ _)
  iapply Hk
  iexact H

theorem Keeps.bind {p q : Prog (TpuEff nD τ sig (Elt F) Λ₀ .tc) PUnit} (hp : Keeps c R p) (hq : Keeps c R q) : Keeps c R (p >>= fun _ => q) := fun K => by
  rw [wp_bind]
  refine BIBase.Entails.trans ?_ (hp _)
  iintro ⟨H, Hk⟩
  isplitl [H]; · iexact H
  iintro H
  iapply (hq K)
  isplitl [H]; · iexact H
  iexact Hk

theorem Keeps.load {cs : CoreSpace} {s : Shape} {e : EltTy} {m : Memref sig .tc cs s e} {r : Rect s} {hl : m.view.LoadsAt r.toLoadRect}
    {k : (r.toLoadRect.shape.Idx → Elt F e) → Prog (TpuEff nD τ sig (Elt F) Λ₀ .tc) PUnit} (hm : Has c R m) (hk : ∀ x, Keeps c R (k x)) :
    Keeps c R (.op (.load m r.toLoadRect hl) k) := fun K => by
  iintro ⟨H, Hk⟩
  ihave H2 := (show R ⊢ iprop(held (F := F) c m ∗ (held (F := F) c m -∗ R)) from hm) $$ H
  icases H2 with ⟨⟨%X, HX⟩, Hr⟩
  iapply (Owned.wp_load Variants.none (c : Thread nD τ) none Set.univ (hl := hl) (k := k) (X := X)) $$ HX
  iintro HX
  iapply (hk _ K)
  isplitl [HX Hr]
  · iapply Hr; iexists X; iexact HX
  iexact Hk

theorem Keeps.store {cs : CoreSpace} {s : Shape} {e : EltTy} {m : Memref sig .tc cs s e} {r : Rect s} {w : r.shape.Idx → Elt F e}
    {hx : (m.access r).Stores Finset.univ} {hu : Finset.univ = Finset.univ ∨ ∀ a, r.stride a = 1}
    {k : PUnit → Prog (TpuEff nD τ sig (Elt F) Λ₀ .tc) PUnit} (hm : Has c R m) (hk : Keeps c R (k ⟨⟩)) :
    Keeps c R (.op (.store m r w Finset.univ hx hu) k) := fun K => by
  iintro ⟨H, Hk⟩
  ihave H2 := (show R ⊢ iprop(held (F := F) c m ∗ (held (F := F) c m -∗ R)) from hm) $$ H
  icases H2 with ⟨⟨%X, HX⟩, Hr⟩
  iapply (Owned.wp_store Variants.none (c : Thread nD τ) none Set.univ (w := w) (hx := hx) (hm := hu) (k := k) (X := X)) $$ HX
  iintro HX
  iapply (hk K)
  isplitl [HX Hr]
  · iapply Hr; iexists _; iexact HX
  iexact Hk

section Body

variable (i : grid0.Coords) {arg2 : Memref sig .tc .vmem S8192x1536 .bf16} {arg3 : Memref sig .tc .vmem S2x768x256 .i8}
  {arg4 : Memref sig .tc .vmem S96x2x256 .bf16} {arg5 : Memref sig .tc .vmem S2x96x256 .i8}
  {o : Memref sig .tc .vmem S2x768x128 .i32} {arg8 : Memref sig .tc .vmem S1024x256 .fp8e4m3} {harg8 : arg8.IsWhole}
  {arg9 : Memref sig .tc .vmem S2x2x4x8x128 .f32} {arg10 : Memref sig .tc .vmem S1536x512 .bf16} {harg10 : arg10.IsWhole}
  (h2 : Has c R arg2) (h3 : Has c R arg3) (h4 : Has c R arg4) (h5 : Has c R arg5) (ho : Has c R o) (h8 : Has c R arg8) (h9 : Has c R arg9)
  (h10 : Has c R arg10)

include ho h10 in
theorem keeps_half (p k : Fin 2) (g : Fin 96) (d : FVec F S16x256 .bf16) : Keeps c R (halfProg o arg10 harg10 p k g d) :=
  .load ho fun _ => .load h10 fun _ => .store h10 .ret

include h4 ho h10 in
theorem keeps_group (p : Fin 2) (t : Fin 24) (q : Fin 4) (b z : Vec F S1x32x256 .i8) : Keeps c R (groupProg arg4 o arg10 harg10 p t q b z) :=
  .load h4 fun _ => .bind (keeps_half ho h10 _ _ _ _) (keeps_half ho h10 _ _ _ _)

include h3 h4 h5 ho h10 in
theorem keeps_block (p : Fin 2) (t : Fin 24) : Keeps c R (blockProg arg3 arg4 arg5 o arg10 harg10 p t) :=
  .load h3 fun _ => .load h5 fun _ => .bind (keeps_group h4 ho h10 _ _ _ _ _) <| .bind (keeps_group h4 ho h10 _ _ _ _ _) <|
    .bind (keeps_group h4 ho h10 _ _ _ _ _) (keeps_group h4 ho h10 _ _ _ _ _)

include h3 h4 h5 ho h10 in
theorem keeps_blocks (p : Fin 2) : ∀ n t, Keeps c R (blocksProg arg3 arg4 arg5 o arg10 harg10 p n t)
  | 0, _ => .ret
  | n + 1, t => by
    unfold blocksProg
    by_cases h : t < 24
    · rw [dif_pos h]; exact .bind (keeps_block h3 h4 h5 ho h10 p _) (keeps_blocks p n _)
    · rw [dif_neg h]; exact .bind .ret (keeps_blocks p n _)

include h9 in
theorem keeps_scale (m : Fin 4) (k r : Fin 2) (s : FVec F S256x1 .f32) : Keeps c R (scaleProg i arg9 m k r s) :=
  .load h9 fun _ => .store h9 .ret

include h8 h9 in
theorem keeps_cols (m : Fin 4) (k : Fin 2) (h : FVec F S256x128 .f32) : Keeps c R (colsProg i arg8 harg8 arg9 m k h) := by
  unfold colsProg
  simp only [Prog.bind_lift]
  exact .load h8 fun _ => .store h8 <| .bind (keeps_scale i h9 _ _ _ _) (keeps_scale i h9 _ _ _ _)

include h2 h8 h9 h10 in
theorem keeps_rows (m : Fin 4) : Keeps c R (rowsProg i arg2 arg8 harg8 arg9 arg10 m) := by
  unfold rowsProg
  simp only [Prog.bind_lift]
  exact .load h2 fun _ => .load h10 fun _ => .bind (keeps_cols i h8 h9 _ _ _) (keeps_cols i h8 h9 _ _ _)

include h2 h8 h9 h10 in
theorem keeps_rest : Keeps c R (restProg i arg2 arg8 harg8 arg9 arg10) :=
  .bind (keeps_rows i h2 h8 h9 h10 _) <| .bind (keeps_rows i h2 h8 h9 h10 _) <| .bind (keeps_rows i h2 h8 h9 h10 _) (keeps_rows i h2 h8 h9 h10 _)

end Body

end Cert.KernelIdeal.Run
-- ==== Proof.Ideal.FrameRun.lean ====
/- The frame of the kernel's whole run. -/
module

public import proofs.«01_k».proof.Proof.Ideal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

attribute [local instance] Cert.KernelIdeal.Gen.facts

local notation "𝕄" => MT nD τ sig Unit (Elt F) ℕ (UR sig nD τ) ℕ

variable (m : (ℓ : Loc nD τ sig) → Buf (Elt F) ℓ) (ρ : Dev nD → PrngReg)

/-- The scratch, whole. -/
abbrev scr : Memref sig .tc .vmem S1536x512 .bf16 := Memref.whole cc0_scratch0

/-- What the body holds at a point: the staging buffers and the scratch, each at some contents. -/
def Held (c : Dev nD) (t : Fin cfg0.N) : sProp 𝕄 :=
  iprop(held (F := F) c (win0_0.stage (cfg0.slots t 0)) ∗ held (F := F) c (win0_1.stage (cfg0.slots t 1)) ∗ held (F := F) c (win0_2.stage (cfg0.slots t 2))
    ∗ held (F := F) c (win0_3.stage (cfg0.slots t 3)) ∗ held (F := F) c (win0_4.stage (cfg0.slots t 4)) ∗ held (F := F) c (win0_5.stage (cfg0.slots t 5))
    ∗ held (F := F) c (win0_6.stage (cfg0.slots t 6)) ∗ held (F := F) c (win0_7.stage (cfg0.slots t 7)) ∗ held (F := F) c scr)

/-- The body at a point keeps what it holds. -/
theorem keeps_body (c : Dev nD) (t : Fin cfg0.N) : Keeps (F := F) c (Held c t) (bodyAt0 t) := by
  have h0 : Has (F := F) c (Held c t) (win0_0.stage (cfg0.slots t 0)) := by
    unfold Has Held; iintro ⟨H0, H1, H2, H3, H4, H5, H6, H7, H8⟩; isplitl [H0]; · iexact H0
    iintro H0; iframe
  have h1 : Has (F := F) c (Held c t) (win0_1.stage (cfg0.slots t 1)) := by
    unfold Has Held; iintro ⟨H0, H1, H2, H3, H4, H5, H6, H7, H8⟩; isplitl [H1]; · iexact H1
    iintro H1; iframe
  have h2 : Has (F := F) c (Held c t) (win0_2.stage (cfg0.slots t 2)) := by
    unfold Has Held; iintro ⟨H0, H1, H2, H3, H4, H5, H6, H7, H8⟩; isplitl [H2]; · iexact H2
    iintro H2; iframe
  have h3 : Has (F := F) c (Held c t) (win0_3.stage (cfg0.slots t 3)) := by
    unfold Has Held; iintro ⟨H0, H1, H2, H3, H4, H5, H6, H7, H8⟩; isplitl [H3]; · iexact H3
    iintro H3; iframe
  have h4 : Has (F := F) c (Held c t) (win0_4.stage (cfg0.slots t 4)) := by
    unfold Has Held; iintro ⟨H0, H1, H2, H3, H4, H5, H6, H7, H8⟩; isplitl [H4]; · iexact H4
    iintro H4; iframe
  have h5 : Has (F := F) c (Held c t) (win0_5.stage (cfg0.slots t 5)) := by
    unfold Has Held; iintro ⟨H0, H1, H2, H3, H4, H5, H6, H7, H8⟩; isplitl [H5]; · iexact H5
    iintro H5; iframe
  have h6 : Has (F := F) c (Held c t) (win0_6.stage (cfg0.slots t 6)) := by
    unfold Has Held; iintro ⟨H0, H1, H2, H3, H4, H5, H6, H7, H8⟩; isplitl [H6]; · iexact H6
    iintro H6; iframe
  have h7 : Has (F := F) c (Held c t) (win0_7.stage (cfg0.slots t 7)) := by
    unfold Has Held; iintro ⟨H0, H1, H2, H3, H4, H5, H6, H7, H8⟩; isplitl [H7]; · iexact H7
    iintro H7; iframe
  have h8 : Has (F := F) c (Held c t) scr := by
    unfold Has Held; iintro ⟨H0, H1, H2, H3, H4, H5, H6, H7, H8⟩; isplitl [H8]; · iexact H8
    iintro H8; iframe
  unfold bodyAt0
  by_cases hf : first (grid0.coords t)
  · rw [body_first hf]
    unfold dequantProg
    exact .bind (.bind (keeps_blocks h1 h2 h3 h4 h8 _ _ _) <| .bind (keeps_blocks h1 h2 h3 h4 h8 _ _ _) <|
      .bind (keeps_blocks h1 h2 h3 h5 h8 _ _ _) (keeps_blocks h1 h2 h3 h5 h8 _ _ _)) (keeps_rest _ h0 h6 h7 h8)
  · rw [body_later hf]
    exact keeps_rest _ h0 h6 h7 h8

/-- Nothing is said of what any window holds. -/
def forgets : Fin 8 → Bool := fun _ => true

/-- The proof data: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with and what it returns. -/
def around (c : Dev nD) (t : Fin cfg0.N) (u : Fin (cfg0.N + 1)) : sProp 𝕄 :=
  iprop((dats m 0 c).Φ u ∗ (dats m 0 c).owesAt () u
    ∗ (∃ X, owns (c : Thread nD τ) (win0_0.stage (cfg0.slots t 0)) fullShare X)
    ∗ (∃ X, owns (c : Thread nD τ) (win0_1.stage (cfg0.slots t 1)) fullShare X)
    ∗ (∃ X, owns (c : Thread nD τ) (win0_2.stage (cfg0.slots t 2)) fullShare X)
    ∗ (∃ X, owns (c : Thread nD τ) (win0_3.stage (cfg0.slots t 3)) fullShare X)
    ∗ (∃ X, owns (c : Thread nD τ) (win0_4.stage (cfg0.slots t 4)) fullShare X)
    ∗ (∃ X, owns (c : Thread nD τ) (win0_5.stage (cfg0.slots t 5)) fullShare X)
    ∗ (∃ X, owns (c : Thread nD τ) (win0_6.stage (cfg0.slots t 6)) fullShare X)
    ∗ (∃ X, owns (c : Thread nD τ) (win0_7.stage (cfg0.slots t 7)) fullShare X))

theorem sound_body (c : Dev nD) (t : Fin cfg0.N) :
    around m c t t.castSucc ⊢ wp frame (wpE (defs₀ (F := F)) Variants.none c none) Set.univ (bodyAt0 t) (fun _ => around m c t t.succ) := by
  have hsc : (iprop(∃ f : Buf (Elt F) ((c : Thread nD τ).loc cc0_scratch0), ((c : Thread nD τ).loc cc0_scratch0) ↦{fullShare} f) : sProp 𝕄)
      = held (F := F) c scr := by
    simp only [scr, held, owns_whole]; rfl
  unfold around
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq, hsc]
  iintro ⟨⟨HS, Hg⟩, HO, H0, H1, H2, H3, H4, H5, H6, H7⟩
  iapply (keeps_body (F := F) c t _)
  isplitl [HS H0 H1 H2 H3 H4 H5 H6 H7]
  · unfold Held; iframe
  unfold Held
  iintro ⟨H0, H1, H2, H3, H4, H5, H6, H7, HS⟩
  iframe

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m)
    (hin := fun _ => .rfl) (hout := fun _ => .rfl)

/-- The arguments end as they were, and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      ((h.1 c).2 main_arg3 (Pipeline.mem_restRefs_of main_arg3 (by decide) (by decide))).trans (V_main_arg3 m c),
      (h.1.arr_in c 5 rfl).trans ((A_eq m c 5).trans (V_main_arg4 m c))⟩, h.2⟩) (run_main m ρ)

end Cert.KernelIdeal.Run
-- ==== Proof.Ref.Terms.lean ====
/- What the reference computes, named in stages. -/
module

public import proofs.«01_k».proof.Proof.Gen.ReferenceIdeal

@[expose] public section

noncomputable section

namespace Cert.ReferenceIdeal

open Idealize.ShloMosaic Idealize.SL.Sem
open Facts₀ Facts

attribute [local instance] Cert.ReferenceIdeal.Gen.facts

variable {F : FTy → Type} [FloatOps F]

/-- The 4-bit codes of every row. -/
def codes4 (X1 : IVec S768x2x8960 8) : IVec S2x96x16x8960 32 :=
  shapeCast S2x96x16x8960 (concatenate S2x768x2x8960 2
    [⟨S2x768x1x8960, broadcastInDim S2x768x1x8960 ![0, 1, 3] bcast_S2x768x8960_S2x768x1x8960_0_1_3
        (andi (extui 32 (transpose S2x768x8960 [1, 0, 2] X1 transposes_S768x2x8960_S2x768x8960_1_0_2) natLt_8_32) (broadcastInDim S2x768x8960 ![] bcast_S_S2x768x8960 (constantI S_ 32 15#32)))⟩,
      ⟨S2x768x1x8960, broadcastInDim S2x768x1x8960 ![0, 1, 3] bcast_S2x768x8960_S2x768x1x8960_0_1_3
        (Host.shrsi (extui 32 (transpose S2x768x8960 [1, 0, 2] X1 transposes_S768x2x8960_S2x768x8960_1_0_2) natLt_8_32) (broadcastInDim S2x768x8960 ![] bcast_S_S2x768x8960 (constantI S_ 32 4#32)))⟩]
    concatenates_S2x768x1x8960_S2x768x1x8960_S2x768x2x8960_d2) shapeCasts_S2x768x2x8960_S2x96x16x8960

/-- (code - zero) * scale. -/
def pairs (X1 : IVec S768x2x8960 8) (X2 : FVec F S96x2x8960 .bf16) (X3 : IVec S96x2x8960 8) : FVec F S2x96x16x8960 .bf16 :=
  mulf (subf (sitofp .bf16 (codes4 X1))
      (broadcastInDim S2x96x16x8960 ![0, 1, 2, 3] bcast_S2x96x1x8960_S2x96x16x8960_0_1_2_3 (broadcastInDim S2x96x1x8960 ![0, 1, 3] bcast_S2x96x8960_S2x96x1x8960_0_1_3
        (sitofp .bf16 (extui 32 (transpose S2x96x8960 [1, 0, 2] X3 transposes_S96x2x8960_S2x96x8960_1_0_2) natLt_8_32)))))
    (broadcastInDim S2x96x16x8960 ![0, 1, 2, 3] bcast_S2x96x1x8960_S2x96x16x8960_0_1_2_3 (broadcastInDim S2x96x1x8960 ![0, 1, 3] bcast_S2x96x8960_S2x96x1x8960_0_1_3
      (transpose S2x96x8960 [1, 0, 2] X2 transposes_S96x2x8960_S2x96x8960_1_0_2)))

/-- The outliers. -/
def outliers (X4 : IVec S140x768x128 32) : FVec F S2x1536x8960 .bf16 :=
  shapeCast S2x1536x8960 (transpose S2x768x2x70x128 [0, 2, 4, 1, 3]
    (shapeCast S2x70x768x128x2 (bitcastToFloat .bf16 (Host.bitcastConvertNarrow S140x768x128x2 16 X4 splits_S140x768x128_w32_S140x768x128x2_w16) : FVec F S140x768x128x2 .bf16)
      shapeCasts_S140x768x128x2_S2x70x768x128x2) transposes_S2x70x768x128x2_S2x768x2x70x128_0_2_4_1_3) shapeCasts_S2x768x2x70x128_S2x1536x8960

/-- The weights. -/
def weights (X1 : IVec S768x2x8960 8) (X2 : FVec F S96x2x8960 .bf16) (X3 : IVec S96x2x8960 8) (X4 : IVec S140x768x128 32) : FVec F S2x1536x8960 .bf16 :=
  addf (shapeCast S2x1536x8960 (pairs X1 X2 X3) shapeCasts_S2x96x16x8960_S2x1536x8960) (outliers X4)

/-- The gate products. -/
def gate (X0 : FVec F S16x512x1536 .bf16) (W : FVec F S2x1536x8960 .bf16) : FVec F S16x512x8960 .f32 :=
  Host.dotGeneral dot_S16x512x1536_S1536x8960_S16x512x8960_2_0_01_1_n_n none X0
    (shapeCast S1536x8960 (extractStridedSlice S1x1536x8960 ![0, 0, 0] W slices_S2x1536x8960_S1x1536x8960_0_0_0) shapeCasts_S1x1536x8960_S1536x8960)

/-- The up products. -/
def up (X0 : FVec F S16x512x1536 .bf16) (W : FVec F S2x1536x8960 .bf16) : FVec F S16x512x8960 .f32 :=
  Host.dotGeneral dot_S16x512x1536_S1536x8960_S16x512x8960_2_0_01_1_n_n none X0
    (shapeCast S1536x8960 (extractStridedSlice S1x1536x8960 ![1, 0, 0] W slices_S2x1536x8960_S1x1536x8960_1_0_0) shapeCasts_S1x1536x8960_S1536x8960)

/-- silu(gate) * up. -/
def acts (X0 : FVec F S16x512x1536 .bf16) (W : FVec F S2x1536x8960 .bf16) : FVec F S16x512x8960 .f32 :=
  mulf (mulf (gate X0 W) (Host.divf (broadcastInDim S16x512x8960 ![] bcast_S_S16x512x8960 (constant S_ .f32 0x3F800000#32))
    (addf (broadcastInDim S16x512x8960 ![] bcast_S_S16x512x8960 (constant S_ .f32 0x3F800000#32)) (Host.exp (Host.negf (gate X0 W)))))) (up X0 W)

/-- The largest absolute value of each group of 128, over 448. -/
def tops (H : FVec F S16x512x8960 .f32) : FVec F S16x512x70 .f32 :=
  mulf (Host.reduce FloatOps.maximumf (Host.absf (shapeCast S16x512x70x128 H shapeCasts_S16x512x8960_S16x512x70x128)) (constant S_ .f32 0xFF800000#32)
    reducesTo_S16x512x70x128_S16x512x70_d3 h_S_) (broadcastInDim S16x512x70 ![] bcast_S_S16x512x70 (constant S_ .f32 0x3B124925#32))

/-- The logarithm of 2. -/
def ln2 : FVec F S_ .f32 := Host.log (constant S_ .f32 0x40000000#32)

/-- The exponents. -/
def expos (Y : FVec F S16x512x70 .f32) : FVec F S16x512x70 .f32 :=
  select (cmpf .olt Y (broadcastInDim S16x512x70 ![] bcast_S_S16x512x70 (constant S_ .f32 0x00800000#32)))
    (broadcastInDim S16x512x70 ![] bcast_S_S16x512x70 (constant S_ .f32 0x00000000#32))
    (addf (Host.floor (Host.divf (Host.log Y) (broadcastInDim S16x512x70 ![] bcast_S_S16x512x70 ln2)))
      (broadcastInDim S16x512x70 ![] bcast_S_S16x512x70 (constant S_ .f32 0x3F800000#32)))

/-- The scales, row by row. -/
def rowScales (E : FVec F S16x512x70 .f32) : FVec F S16x512x70 .f32 :=
  Host.exp (mulf E (broadcastInDim S16x512x70 ![] bcast_S_S16x512x70 ln2))

/-- The inverse scales. -/
def invs (E : FVec F S16x512x70 .f32) : FVec F S16x512x70 .f32 :=
  Host.exp (mulf (Host.negf E) (broadcastInDim S16x512x70 ![] bcast_S_S16x512x70 ln2))

/-- The first result: the codes. -/
def resultCodes (H : FVec F S16x512x8960 .f32) : FVec F S8192x8960 .fp8e4m3 :=
  shapeCast S8192x8960 (Host.convertf .fp8e4m3 (minimumf (broadcastInDim S16x512x70x128 ![] bcast_S_S16x512x70x128 (constant S_ .f32 0x43E00000#32))
    (maximumf (broadcastInDim S16x512x70x128 ![] bcast_S_S16x512x70x128 (constant S_ .f32 0xC3E00000#32))
      (mulf (shapeCast S16x512x70x128 H shapeCasts_S16x512x8960_S16x512x70x128)
        (broadcastInDim S16x512x70x128 ![0, 1, 2, 3] bcast_S16x512x70x1_S16x512x70x128_0_1_2_3
          (broadcastInDim S16x512x70x1 ![0, 1, 2] bcast_S16x512x70_S16x512x70x1_0_1_2 (invs (expos (tops H)))))))) : FVec F S16x512x70x128 .fp8e4m3)
    shapeCasts_S16x512x70x128_S8192x8960

/-- The second result: the scales. -/
def resultScales (H : FVec F S16x512x8960 .f32) : FVec F S70x2x4x8x128 .f32 :=
  transpose S70x2x4x8x128 [4, 0, 2, 1, 3] (shapeCast S2x8x4x128x70 (rowScales (expos (tops H))) shapeCasts_S16x512x70_S2x8x4x128x70)
    transposes_S2x8x4x128x70_S70x2x4x8x128_4_0_2_1_3

end Cert.ReferenceIdeal
-- ==== Proof.Ref.Run.lean ====
/- The run of the reference. -/
module

public import proofs.«01_k».proof.Proof.Ref.Terms
public import Idealize.ShloMosaic.Lib.Claim
public import Idealize.ShloMosaic.Adequacy
public import Idealize.ShloMosaic.Init

@[expose] public section

set_option maxRecDepth 16384

noncomputable section

namespace Cert.ReferenceIdeal

open Idealize.ShloMosaic Idealize.SL.Sem

attribute [local instance] Cert.ReferenceIdeal.Gen.facts

variable {F : FTy → Type} [FloatOps F]

variable (m : (ℓ : Loc nD τ sig) → Buf (Elt F) ℓ) (g : Dev nD → PrngReg)

/-- silu(gate) * up of the arguments in memory. -/
def actsOf (c : Dev nD) : FVec F S16x512x8960 .f32 :=
  acts (m ((c.tc : Thread nD τ).loc main_arg0)) (weights (m ((c.tc : Thread nD τ).loc main_arg1)) (m ((c.tc : Thread nD τ).loc main_arg2))
    (m ((c.tc : Thread nD τ).loc main_arg3)) (m ((c.tc : Thread nD τ).loc main_arg4)))

set_option maxHeartbeats 3200000 in
/-- The two results, and the arguments as they were. -/
theorem run :
    θ_run (defs (F := F)) (onTc (τ := τ) (main (F := F))) ⟨m, fun _ => 0, g⟩ (fun r => ∀ c : Dev nD,
      r.2.mem ((c.tc : Thread nD τ).loc main_v63) = resultCodes (actsOf m c)
      ∧ r.2.mem ((c.tc : Thread nD τ).loc main_v64) = resultScales (actsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  · rfl
  · rfl

end Cert.ReferenceIdeal
-- ==== Proof.Math.Nibbles.lean ====
/- The bits of 128 + n as a bf16 number, and the 4-bit codes of a byte. -/
module

public import Idealize.ShloMosaic.PureOps
public import Idealize.ShloMosaic.Lib.IdealHost
public import Idealize.ShloMosaic.Lib.BitcastPair
public import Idealize.ShloMosaic.Lib.Pointwise

@[expose] public section

set_option maxRecDepth 16384

noncomputable section

namespace Cert.Nibbles

open Idealize.ShloMosaic

/-- The code of a row in its byte: the low four bits for an even row, the high four for an odd one. -/
def nib (v : BitVec 8) (r : Nat) : Nat := if r % 2 = 0 then v.toNat % 16 else v.toNat / 16

theorem nib_lt (v : BitVec 8) (r : Nat) : nib v r < 128 := by
  unfold nib
  have := v.isLt
  split <;> omega

/-- The word of a byte's two codes. -/
def codeWord (v : BitVec 32) : BitVec 32 := ((v &&& 15#32) ||| ((v &&& 240#32) <<< 12)) ||| 1124090624#32

/-- The word of a zero point, twice. -/
def zeroWord (v : BitVec 32) : BitVec 32 := (v ||| 17152#32) ||| ((v ||| 17152#32) <<< 16)

theorem codeWord_bits : ∀ v : BitVec 8, (codeWord (v.setWidth 32)).extractLsb' 0 16 = BitVec.ofNat 16 (17152 + v.toNat % 16)
    ∧ (codeWord (v.setWidth 32)).extractLsb' 16 16 = BitVec.ofNat 16 (17152 + v.toNat / 16) := by
  decide +kernel

theorem zeroWord_bits : ∀ v : BitVec 8, v.toNat ≤ 128 → (zeroWord (v.setWidth 32)).extractLsb' 0 16 = BitVec.ofNat 16 (17152 + v.toNat)
    ∧ (zeroWord (v.setWidth 32)).extractLsb' 16 16 = BitVec.ofNat 16 (17152 + v.toNat) := by
  decide +kernel

theorem fields_small : ∀ n : Fin 128, (BitVec.ofNat 16 (17152 + n.val)).extractLsb' 15 1 = 0#1
    ∧ ((BitVec.ofNat 16 (17152 + n.val)).extractLsb' 7 8).toNat = 134 ∧ ((BitVec.ofNat 16 (17152 + n.val)).extractLsb' 0 7).toNat = n.val := by
  decide +kernel

/-- The number whose bits these are is 128 + n. -/
theorem ofBits_128 (n : Nat) (h : n ≤ 128) : Ideal.ofBits .bf16 (BitVec.ofNat 16 (17152 + n)) = ((128 + (n : ℝ) : ℝ) : EReal) := by
  rcases Nat.lt_or_eq_of_le h with h | rfl
  · obtain ⟨h1, h2, h3⟩ := fields_small ⟨n, h⟩
    simp only at h1 h2 h3
    show Ideal.ieee 8 7 (BitVec.ofNat 16 (17152 + n)) = _
    unfold Ideal.ieee
    simp only [show 8 + 7 = 15 from rfl, h1, h2, h3]
    norm_num
  · show Ideal.ieee 8 7 (17280#16) = _
    simp [Ideal.ieee, -EReal.coe_mul]
    norm_num [← EReal.coe_add]

theorem ofBits_code (v : BitVec 8) (r : Nat) : Ideal.ofBits .bf16 ((codeWord (v.setWidth 32)).extractLsb' (16 * (r % 2)) 16) = ((128 + (nib v r : ℝ) : ℝ) : EReal) := by
  obtain ⟨h0, h1⟩ := codeWord_bits v
  rcases Nat.mod_two_eq_zero_or_one r with hr | hr
  · have hn : nib v r = v.toNat % 16 := by unfold nib; rw [if_pos hr]
    rw [hr, hn, Nat.mul_zero, h0, ofBits_128 _ (by omega)]
  · have hn : nib v r = v.toNat / 16 := by unfold nib; rw [if_neg (by omega)]
    have := v.isLt
    rw [hr, hn, Nat.mul_one, h1, ofBits_128 _ (by omega)]

theorem ofBits_zero (v : BitVec 8) (h : v.toNat ≤ 128) (r : Nat) :
    Ideal.ofBits .bf16 ((zeroWord (v.setWidth 32)).extractLsb' (16 * (r % 2)) 16) = ((128 + (v.toNat : ℝ) : ℝ) : EReal) := by
  obtain ⟨h0, h1⟩ := zeroWord_bits v h
  rcases Nat.mod_two_eq_zero_or_one r with hr | hr
  · rw [hr, Nat.mul_zero, h0, ofBits_128 _ h]
  · rw [hr, Nat.mul_one, h1, ofBits_128 _ h]

/-- The codes as the reference takes them. -/
theorem toInt_lo : ∀ v : BitVec 8, (IntOp.andi (v.setWidth 32) 15#32).toInt = (v.toNat % 16 : ℕ) := by decide +kernel
theorem toInt_hi : ∀ v : BitVec 8, (IntOp.shrsi ArithUnit.host (v.setWidth 32) 4#32).toInt = (v.toNat / 16 : ℕ) := by decide +kernel
theorem toInt_byte : ∀ v : BitVec 8, (v.setWidth 32).toInt = (v.toNat : ℕ) := by decide +kernel

/-- Words read as two rows each. -/
theorem bitcast_rows {n : Nat} (x : (⟨2, ![8, n]⟩ : Shape).Idx → BitVec 32) (h : (⟨2, ![8, n]⟩ : Shape).Bitcasts 32 ⟨2, ![16, n]⟩ 16) (a : Fin 16) (k : Fin n) :
    bitcast ⟨2, ![16, n]⟩ 16 x h (ix2 a k) = (x (ix2 ⟨a.val / 2, by omega⟩ k)).extractLsb' (16 * (a.val % 2)) 16 := by
  have hrow : (⟨2, ![16, n]⟩ : Shape).row (ix2 a k) = a.val := rfl
  rw [bitcast_32_16]
  simp only [hrow]
  refine congrArg (fun i => (x i).extractLsb' (16 * (a.val % 2)) 16) (funext fun d => Fin.ext ?_)
  match d with
  | 0 => exact h.srcIdx_row _ _ _ 0 rfl
  | 1 => exact h.srcIdx_other _ _ _ 1 (by show ¬ (1 + 2 = 2); decide)

end Cert.Nibbles
-- ==== Proof.Math.InRange.lean ====
/- What the precondition gives: every zero point is at most 128, and every silu(gate) * up is at most the largest float32 in absolute value. -/
module

public import proofs.«01_k».proof.Proof.Ref.Terms
public import proofs.«01_k».proof.Proof.Gen.Pre_in_range
public import proofs.«01_k».proof.Proof.Math.Nibbles
public import Idealize.ShloMosaic.Lib.ReduceAll
public import Idealize.ShloMosaic.Lib.Affine
public import Idealize.ShloMosaic.Lib.IdealHost

@[expose] public section

set_option maxRecDepth 16384

noncomputable section

namespace Cert.ReferenceIdeal

open Cert.ReferenceIdeal
open Idealize.ShloMosaic Idealize.SL.Sem

attribute [local instance] Cert.ReferenceIdeal.Gen.facts Cert.Pre_in_range.Gen.facts

theorem in_range (X0 : FVec Ideal S16x512x1536 .bf16) (X1 : IVec S768x2x8960 8) (X2 : FVec Ideal S96x2x8960 .bf16) (X3 : IVec S96x2x8960 8)
    (X4 : IVec S140x768x128 32) (h : Cert.Pre_in_range.fn (F := Ideal) X0 X1 X2 X3 X4 = fun _ => 1#1) :
    (∀ i, (X3 i).toNat ≤ 128) ∧ ∀ i, max (acts X0 (weights X1 X2 X3 X4) i : EReal) (-(acts X0 (weights X1 X2 X3 X4) i : EReal)) ≤ Ideal.ofBits .f32 0x7F7FFFFF#32 := by
  have h0 := congrFun h default
  dsimp only [Cert.Pre_in_range.fn, Cert.Pre_in_range.fn_part1, Cert.Pre_in_range.fn_part2] at h0
  obtain ⟨ha, hb⟩ := IntOp.andi_eq_one.1 h0
  refine ⟨fun i => ?_, fun i => ?_⟩
  · have := IntOp.cmpi_sle.1 (Host.reduce_andi_all _ _ _ _ _ ha i)
    have e : BitVec.toInt (BitVec.setWidth 32 (X3 i)) ≤ 128 := this
    have lt := (X3 i).isLt
    rw [Cert.Nibbles.toInt_byte] at e
    omega
  · have := Host.reduce_andi_all _ _ _ _ _ hb i
    have e : Ideal.cmp .ole (max (acts X0 (weights X1 X2 X3 X4) i : EReal) (-(acts X0 (weights X1 X2 X3 X4) i : EReal))) (Ideal.ofBits .f32 0x7F7FFFFF#32) = 1#1 := this
    rw [Ideal.cmp] at e
    by_contra hn
    simp only [decide_eq_false hn] at e
    exact absurd e (by decide)

end Cert.ReferenceIdeal
-- ==== Proof.Ideal.Targets.lean ====
/- What the body leaves, element by element: the dequantised weights of the scratch, the codes of a grid step, the scales of a
   column block; and that each store's payload is that on the rectangle it writes. -/
module

public import proofs.«01_k».proof.Proof.Ideal.Body
public import proofs.«01_k».proof.Proof.Owned
public import Idealize.ShloMosaic.Lib.ValueIdxCore

@[expose] public section

noncomputable section

namespace Cert.KernelIdeal

open Idealize.ShloMosaic Idealize.ShloMosaic.ValueIdx Idealize.SL.Sem
open Cert.KernelIdeal.Gen

variable {F : FTy → Type} [FloatOps F]

attribute [local instance] Cert.KernelIdeal.Gen.facts

section Weights

variable (X3 : Vec F S2x768x256 .i8) (X4 : Vec F S96x2x256 .bf16) (X5 : Vec F S2x96x256 .i8) (X6 X7 : Vec F S2x768x128 .i32)

/-- The packed codes of row block t of projection p. -/
def codesOf (p : Fin 2) (t : Fin 24) : Vec F S1x32x256 .i8 := View.ld X3 (Rect.unit (s := S2x768x256) ![p.1, 32 * t.1, 0] S1x32x256.size (inb_wp p t))
/-- Its zero points. -/
def zerosOf (p : Fin 2) (t : Fin 24) : Vec F S1x32x256 .i8 := View.ld X5 (Rect.unit (s := S2x96x256) ![p.1, 32 * (t.1 / 8), 0] S1x32x256.size (inb_wz p t))
/-- The scales of group g. -/
def scalesOf (g : Fin 96) : Vec F S1x2x256 .bf16 := View.ld X4 (Rect.unit (s := S96x2x256) ![g.1, 0, 0] S1x2x256.size (inb_ws g))
/-- The outliers of half k of group g. -/
def outliersOf (X : Vec F S2x768x128 .i32) (k : Fin 2) (g : Fin 96) : Vec F S1x8x128 .i32 :=
  View.ld X (Rect.unit (s := S2x768x128) ![k.1, 8 * g.1, 0] S1x8x128.size (inb_out k g))
/-- The outliers that projection p takes. -/
def outs (p : Fin 2) : Vec F S2x768x128 .i32 := if p = 0 then X6 else X7

/-- The weights of half k of group g of projection p. -/
def groupAt (X : Vec F S2x768x128 .i32) (p k : Fin 2) (g : Fin 96) : FVec F S16x128 .bf16 :=
  half k (deq p ⟨g.1 % 4, Nat.mod_lt _ (by decide)⟩ ⟨g.1 % 32, Nat.mod_lt _ (by decide)⟩ (codesOf X3 p ⟨g.1 / 4, by omega⟩) (zerosOf X5 p ⟨g.1 / 4, by omega⟩)
    (scalesOf X4 g)) (outliersOf X k g)

/-- The weights of a column block: gate columns, then up columns. -/
def weight : Vec F S1536x512 .bf16 := fun j =>
  groupAt X3 X4 X5 (outs X6 X7 ⟨(j 1).val / 256, by have := idx2_lt1 j; omega⟩) ⟨(j 1).val / 256, by have := idx2_lt1 j; omega⟩ ⟨(j 1).val / 128 % 2, by omega⟩
    ⟨(j 0).val / 16, by have := idx2_lt0 j; omega⟩ (ix2 ⟨(j 0).val % 16, by omega⟩ ⟨(j 1).val % 128, by omega⟩)

theorem weight_eq (j : S1536x512.Idx) (p k : Fin 2) (g : Fin 96) (x : S16x128.Idx) (h0 : (j 0).val = 16 * g.1 + (x 0).val)
    (h1 : (j 1).val = 256 * p.1 + 128 * k.1 + (x 1).val) :
    weight X3 X4 X5 X6 X7 j = groupAt X3 X4 X5 (outs X6 X7 p) p k g x := by
  have x0 := idx2_lt0 x
  have x1 := idx2_lt1 x
  have hj0 := idx2_lt0 j
  have hj1 := idx2_lt1 j
  have ep : (⟨(j 1).val / 256, by omega⟩ : Fin 2) = p := Fin.ext (by simp only; omega)
  have ek : (⟨(j 1).val / 128 % 2, by omega⟩ : Fin 2) = k := Fin.ext (by simp only; omega)
  have eg : (⟨(j 0).val / 16, by omega⟩ : Fin 96) = g := Fin.ext (by simp only; omega)
  have e0 : (⟨(j 0).val % 16, by omega⟩ : Fin 16) = x 0 := Fin.ext (by simp only; omega)
  have e1 : (⟨(j 1).val % 128, by omega⟩ : Fin 128) = x 1 := Fin.ext (by simp only; omega)
  unfold weight
  rw [ep, ek, eg, e0, e1]
  exact congrArg _ (eq_ix2 x).symm

theorem groupAt_eq (X : Vec F S2x768x128 .i32) (p k : Fin 2) (t : Fin 24) (q : Fin 4) :
    half k (deq p q ⟨(4 * t.1 + q.1) % 32, Nat.mod_lt _ (by decide)⟩ (codesOf X3 p t) (zerosOf X5 p t) (scalesOf X4 ⟨4 * t.1 + q.1, by omega⟩))
      (outliersOf X k ⟨4 * t.1 + q.1, by omega⟩) = groupAt X3 X4 X5 X p k ⟨4 * t.1 + q.1, by omega⟩ := by
  have eq : (⟨(4 * t.1 + q.1) % 4, Nat.mod_lt _ (by decide)⟩ : Fin 4) = q := Fin.ext (by simp only; omega)
  have et : (⟨(4 * t.1 + q.1) / 4, by omega⟩ : Fin 24) = t := Fin.ext (by simp only; omega)
  unfold groupAt
  simp only
  rw [eq, et]

end Weights

theorem inb_x (k : Fin 8) (m : Fin 4) : ∀ a, (![1024 * k.1 + 256 * m.1, 0] : Fin 2 → Nat) a + S256x1536.size a ≤ S8192x1536.size a := by
  revert k m; decide

section Rows

variable (X2 : Vec F S8192x1536 .bf16) (W : Vec F S1536x512 .bf16)

/-- The rows of row block m of grid step k. -/
def rowsOf (k : Fin 8) (m : Fin 4) : Vec F S256x1536 .bf16 :=
  View.ld X2 (Rect.unit (s := S8192x1536) ![1024 * k.1 + 256 * m.1, 0] S256x1536.size (inb_x k m))

theorem rowsOf_eq (i : grid0.Coords) (m : Fin 4) :
    (View.ld X2 (Rect.unit (s := S8192x1536) (k0_off1 i (BitVec.ofNat 32 (256 * m.1))) S256x1536.size (k0_off1_inb i m)) : Vec F S256x1536 .bf16) = rowsOf X2 (i 1) m := by
  funext x
  refine congrArg X2 (funext fun a => Fin.ext ?_)
  exact congrArg (· + 1 * (x a).val) (congrFun (k0_off1_eq i m) a)

/-- h of 256 rows and 128 columns. -/
def hOf (k : Fin 8) (m : Fin 4) (c : Fin 2) : FVec F S256x128 .f32 := cols c (act (acc (rowsOf X2 k m) W))

/-- The codes of grid step k. -/
def codesAt (k : Fin 8) : Vec F S1024x256 .fp8e4m3 := fun j =>
  codes (hOf X2 W k ⟨(j 0).val / 256, by have := idx2_lt0 j; omega⟩ ⟨(j 1).val / 128, by have := idx2_lt1 j; omega⟩)
    (ix2 ⟨(j 0).val % 256, by omega⟩ ⟨(j 1).val % 128, by omega⟩)

theorem codesAt_eq (k : Fin 8) (j : S1024x256.Idx) (m : Fin 4) (c : Fin 2) (x : S256x128.Idx) (h0 : (j 0).val = 256 * m.1 + (x 0).val)
    (h1 : (j 1).val = 128 * c.1 + (x 1).val) : codesAt X2 W k j = codes (hOf X2 W k m c) x := by
  have x0 := idx2_lt0 x
  have x1 := idx2_lt1 x
  have hj0 := idx2_lt0 j
  have hj1 := idx2_lt1 j
  have em : (⟨(j 0).val / 256, by omega⟩ : Fin 4) = m := Fin.ext (by simp only; omega)
  have ec : (⟨(j 1).val / 128, by omega⟩ : Fin 2) = c := Fin.ext (by simp only; omega)
  have e0 : (⟨(j 0).val % 256, by omega⟩ : Fin 256) = x 0 := Fin.ext (by simp only; omega)
  have e1 : (⟨(j 1).val % 128, by omega⟩ : Fin 128) = x 1 := Fin.ext (by simp only; omega)
  unfold codesAt
  rw [em, ec, e0, e1]
  exact congrArg _ (eq_ix2 x).symm

/-- The scales of a column block. -/
def scalesAt : Vec F S2x2x4x8x128 .f32 := fun j =>
  scaleRow ⟨(j 2).val % 2, by omega⟩ (scales (hOf X2 W ⟨4 * (j 1).val + (j 3).val / 2, by have h1 : (j 1).val < 2 := (j 1).isLt; have h3 : (j 3).val < 8 := (j 3).isLt; omega⟩
    ⟨2 * ((j 3).val % 2) + (j 2).val / 2, by have h2 : (j 2).val < 4 := (j 2).isLt; omega⟩ ⟨(j 0).val, (j 0).isLt⟩))
    (ix5 0 0 0 0 ⟨(j 4).val, (j 4).isLt⟩)

/-- The scales that row block m, half c, row half r of grid step k are. -/
def Part (k : Fin 8) (m : Fin 4) (c r : Fin 2) (j : S2x2x4x8x128.Idx) : Prop :=
  (j 0).val = c.1 ∧ 4 * (j 1).val + (j 3).val / 2 = k.1 ∧ 2 * ((j 3).val % 2) + (j 2).val / 2 = m.1 ∧ (j 2).val % 2 = r.1

theorem scalesAt_eq (k : Fin 8) (m : Fin 4) (c r : Fin 2) (j : S2x2x4x8x128.Idx) (x : S1x1x1x1x128.Idx) (h : Part k m c r j) (h4 : (j 4).val = (x 4).val) :
    scalesAt X2 W j = scaleRow r (scales (hOf X2 W k m c)) x := by
  obtain ⟨hc, hk, hm, hr⟩ := h
  have ek : (⟨4 * (j 1).val + (j 3).val / 2, by omega⟩ : Fin 8) = k := Fin.ext hk
  have em : (⟨2 * ((j 3).val % 2) + (j 2).val / 2, by omega⟩ : Fin 4) = m := Fin.ext hm
  have ec : (⟨(j 0).val, (j 0).isLt⟩ : Fin 2) = c := Fin.ext hc
  have er : (⟨(j 2).val % 2, by omega⟩ : Fin 2) = r := Fin.ext hr
  have e4 : (⟨(j 4).val, (j 4).isLt⟩ : Fin 128) = x 4 := Fin.ext h4
  unfold scalesAt
  rw [ek, em, ec, er, e4]
  refine congrArg _ (Eq.trans ?_ (eq_ix5 x).symm)
  have z : ∀ a b : Fin 1, a = b := fun a b => Subsingleton.elim a b
  congr 1 <;> exact z _ _

end Rows

end Cert.KernelIdeal
-- ==== Proof.Ideal.Blocks.lean ====
/- The blocks that the body reads at a grid point, as parts of the arrays: they depend on the point's column block only. -/
module

public import proofs.«01_k».proof.Proof.Ideal.Targets
public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe
open Idealize.SL.Sem

variable {F : FTy → Type} [FloatOps F]

/-- Where each window's block lies at each point. -/
theorem idx_val : ∀ t : Fin cfg0.N, win0_0.index t = ![0, 0] ∧ win0_1.index t = ![0, 0, t.val / 8] ∧ win0_2.index t = ![0, 0, t.val / 8]
    ∧ win0_3.index t = ![0, 0, t.val / 8] ∧ win0_4.index t = ![t.val / 8, 0, 0] ∧ win0_5.index t = ![t.val / 8 + 35, 0, 0]
    ∧ win0_6.index t = ![t.val % 8, t.val / 8] ∧ win0_7.index t = ![t.val / 8, 0, 0, 0, 0] :=
  (by decide +kernel : ∀ t : Fin grid0.N, win0_0.index t = ![0, 0] ∧ win0_1.index t = ![0, 0, t.val / 8] ∧ win0_2.index t = ![0, 0, t.val / 8]
    ∧ win0_3.index t = ![0, 0, t.val / 8] ∧ win0_4.index t = ![t.val / 8, 0, 0] ∧ win0_5.index t = ![t.val / 8 + 35, 0, 0]
    ∧ win0_6.index t = ![t.val % 8, t.val / 8] ∧ win0_7.index t = ![t.val / 8, 0, 0, 0, 0])

theorem lt_N (t : Fin cfg0.N) : t.val < 280 := t.isLt

/-- Columns 256 n and on of an array of 8960. -/
def packedBlk (A : Vec F S2x768x8960 .i8) (n : Nat) : Vec F S2x768x256 .i8 :=
  fun y => A (ix3 ⟨(y 0).val, (y 0).isLt⟩ ⟨(y 1).val, (y 1).isLt⟩ ⟨(256 * n + (y 2).val) % 8960, Nat.mod_lt _ (by decide)⟩)
def scaleBlk (A : Vec F S96x2x8960 .bf16) (n : Nat) : Vec F S96x2x256 .bf16 :=
  fun y => A (ix3 ⟨(y 0).val, (y 0).isLt⟩ ⟨(y 1).val, (y 1).isLt⟩ ⟨(256 * n + (y 2).val) % 8960, Nat.mod_lt _ (by decide)⟩)
def zeroBlk (A : Vec F S2x96x8960 .i8) (n : Nat) : Vec F S2x96x256 .i8 :=
  fun y => A (ix3 ⟨(y 0).val, (y 0).isLt⟩ ⟨(y 1).val, (y 1).isLt⟩ ⟨(256 * n + (y 2).val) % 8960, Nat.mod_lt _ (by decide)⟩)
/-- Tiles 2 n and 2 n + 1 of the outliers. -/
def outBlk (A : Vec F S140x768x128 .i32) (n : Nat) : Vec F S2x768x128 .i32 :=
  fun y => A (ix3 ⟨(2 * n + (y 0).val) % 140, Nat.mod_lt _ (by decide)⟩ ⟨(y 1).val, (y 1).isLt⟩ ⟨(y 2).val, (y 2).isLt⟩)

variable (m : (ℓ : Loc nD τ sig) → Buf (Elt F) ℓ) (c : Dev nD) (t : Fin cfg0.N)

theorem iblk_x : iblk m c 0 t = V m c main_v0 := by
  funext y
  blk_ext [iblk, idx_val t]

theorem iblk_packed : iblk m c 1 t = packedBlk (V m c main_v1) (t.val / 8) := by
  have := lt_N t
  funext y
  unfold packedBlk
  blk_ext [iblk, idx_val t]

theorem iblk_scale : iblk m c 2 t = scaleBlk (V m c main_arg2) (t.val / 8) := by
  have := lt_N t
  funext y
  unfold scaleBlk
  blk_ext [iblk, idx_val t]

theorem iblk_zero : iblk m c 3 t = zeroBlk (V m c main_v2) (t.val / 8) := by
  have := lt_N t
  funext y
  unfold zeroBlk
  blk_ext [iblk, idx_val t]

theorem iblk_gate : iblk m c 4 t = outBlk (V m c main_arg4) (t.val / 8) := by
  have := lt_N t
  funext y
  unfold outBlk
  blk_ext [iblk, idx_val t]

theorem iblk_up : iblk m c 5 t = outBlk (V m c main_arg4) (t.val / 8 + 35) := by
  have := lt_N t
  funext y
  unfold outBlk
  blk_ext [iblk, idx_val t]

/-- The weights of column block n. -/
def weightOf (n : Nat) : Vec F S1536x512 .bf16 :=
  weight (packedBlk (V m c main_v1) n) (scaleBlk (V m c main_arg2) n) (zeroBlk (V m c main_v2) n) (outBlk (V m c main_arg4) n) (outBlk (V m c main_arg4) (n + 35))

end Cert.KernelIdeal.Value
-- ==== Proof.Math.Weights.lean ====
/- One entry of the weights: (code - zero) * scale + outlier, in the kernel's block and in the reference's array. -/
module

public import proofs.«01_k».proof.Proof.Ideal.Blocks
public import proofs.«01_k».proof.Proof.Ref.Terms
public import proofs.«01_k».proof.Proof.Math.Nibbles
public import Idealize.ShloMosaic.Lib.BitcastConvert

@[expose] public section

set_option maxRecDepth 16384

noncomputable section

namespace Cert.Nibbles

open Idealize.ShloMosaic

/-- (code - zero) * scale + outlier. -/
def entry (code : BitVec 8) (zero : BitVec 8) (r : Nat) (scale : EReal) (outlier : BitVec 32) : EReal :=
  ((((nib code r : ℝ) - (zero.toNat : ℝ) : ℝ)) : EReal) * scale + Ideal.ofBits .bf16 (outlier.extractLsb' (16 * (r % 2)) 16)

theorem nib_add (v : BitVec 8) (a r : Nat) (h : a % 2 = r % 2) : nib v a = nib v r := by unfold nib; rw [h]

end Cert.Nibbles

namespace Cert.KernelIdeal

open Cert.KernelIdeal Cert.KernelIdeal.Gen Cert.Nibbles
open Idealize.ShloMosaic Idealize.ShloMosaic.TcCoe Idealize.SL.Sem

attribute [local instance] Cert.KernelIdeal.Gen.facts

theorem scaleRows_at (p : Fin 2) (s : Vec Ideal S1x2x256 .bf16) (a : Fin 16) (b : Fin 256) : scaleRows (F := Ideal) p s (ix2 a b) = s (ix3 0 p b) := by
  match p with
  | 0 =>
    pointwise [scaleRows, scaleOf]
    simp only [dite_eq_ite, ite_self]
  | 1 =>
    pointwise [scaleRows, scaleOf]
    simp only [dite_eq_ite, ite_self]

theorem word_at (b : IVec S1x32x256 8) (q : Fin 4) (a : Fin 8) (k : Fin 256) :
    word (extui 32 (shapeCast S32x256 b shapeCasts_S1x32x256_S32x256 : IVec S32x256 8) natLt_8_32) q (ix2 a k)
      = codeWord ((b (ix3 0 ⟨8 * q.val + a.val, by omega⟩ k)).setWidth 32) := by
  pointwise [word]
  rfl

theorem zero_at (z : IVec S1x32x256 8) (r : Fin 32) (a : Fin 8) (k : Fin 256) :
    zero (extui 32 (shapeCast S32x256 z shapeCasts_S1x32x256_S32x256 : IVec S32x256 8) natLt_8_32) r (ix2 a k)
      = zeroWord ((z (ix3 0 r k)).setWidth 32) := by
  pointwise [zero, zeroRow]
  rfl

theorem deq_at (p : Fin 2) (q : Fin 4) (r : Fin 32) (b z : Vec Ideal S1x32x256 .i8) (s : Vec Ideal S1x2x256 .bf16) (a : Fin 16) (k : Fin 256)
    (hz : BitVec.toNat (z (ix3 0 r k) : BitVec 8) ≤ 128) :
    deq (F := Ideal) p q r b z s (ix2 a k)
      = ((((nib (b (ix3 0 ⟨8 * q.val + a.val / 2, by omega⟩ k)) a.val : ℝ) - (BitVec.toNat (z (ix3 0 r k) : BitVec 8) : ℝ) : ℝ)) : EReal) * s (ix3 0 p k) := by
  pointwise [deq, scaleRows_at]
  rw [bitcast_rows, bitcast_rows, word_at, zero_at, ofBits_code, ofBits_zero _ hz]
  refine congrArg₂ (· * ·) ?_ rfl
  rw [← EReal.coe_sub, add_sub_add_left_eq_sub]

theorem half_at (c : Fin 2) (d : FVec Ideal S16x256 .bf16) (o : Vec Ideal S1x8x128 .i32) (a : Fin 16) (k : Fin 128) :
    half (F := Ideal) c d o (ix2 a k) = d (ix2 a ⟨128 * c.val + k.val, by omega⟩)
      + Ideal.ofBits .bf16 (BitVec.extractLsb' (16 * (a.val % 2)) 16 (o (ix3 0 ⟨a.val / 2, by omega⟩ k) : BitVec 32)) := by
  pointwise [half]
  rw [bitcast_rows]
  pointwise

theorem groupAt_at (X3 : Vec Ideal S2x768x256 .i8) (X4 : Vec Ideal S96x2x256 .bf16) (X5 : Vec Ideal S2x96x256 .i8) (X : Vec Ideal S2x768x128 .i32)
    (p h : Fin 2) (g : Fin 96) (a : Fin 16) (k : Fin 128) (hz : BitVec.toNat (X5 (ix3 p g ⟨128 * h.val + k.val, by omega⟩) : BitVec 8) ≤ 128) :
    groupAt X3 X4 X5 X p h g (ix2 a k) = entry (X3 (ix3 p ⟨8 * g.val + a.val / 2, by omega⟩ ⟨128 * h.val + k.val, by omega⟩))
      (X5 (ix3 p g ⟨128 * h.val + k.val, by omega⟩)) a.val (X4 (ix3 g p ⟨128 * h.val + k.val, by omega⟩)) (X (ix3 h ⟨8 * g.val + a.val / 2, by omega⟩ k)) := by
  have ez : zerosOf X5 p ⟨g.val / 4, by omega⟩ (ix3 0 ⟨g.val % 32, Nat.mod_lt _ (by decide)⟩ ⟨128 * h.val + k.val, by omega⟩)
      = X5 (ix3 p g ⟨128 * h.val + k.val, by omega⟩) := by
    pointwise [zerosOf]
    refine congrArg X5 ?_
    idx_ext
    all_goals omega
  have ec : codesOf X3 p ⟨g.val / 4, by omega⟩ (ix3 0 ⟨8 * (g.val % 4) + a.val / 2, by omega⟩ ⟨128 * h.val + k.val, by omega⟩)
      = X3 (ix3 p ⟨8 * g.val + a.val / 2, by omega⟩ ⟨128 * h.val + k.val, by omega⟩) := by
    pointwise [codesOf]
    refine congrArg X3 ?_
    idx_ext
    all_goals omega
  have es : scalesOf X4 g (ix3 0 p ⟨128 * h.val + k.val, by omega⟩) = X4 (ix3 g p ⟨128 * h.val + k.val, by omega⟩) := by
    pointwise [scalesOf]
  have eo : outliersOf X h g (ix3 0 ⟨a.val / 2, by omega⟩ k) = X (ix3 h ⟨8 * g.val + a.val / 2, by omega⟩ k) := by
    pointwise [outliersOf]
  unfold groupAt entry
  rw [half_at, deq_at _ _ _ _ _ _ _ _ (by rw [ez]; exact hz), ez, es, eo]
  simp only
  rw [ec]

end Cert.KernelIdeal

namespace Cert.ReferenceIdeal

open Cert.ReferenceIdeal Cert.Nibbles
open Idealize.ShloMosaic Idealize.ShloMosaic.TcCoe Idealize.SL.Sem

attribute [local instance] Cert.ReferenceIdeal.Gen.facts

theorem weights_at (X1 : IVec S768x2x8960 8) (X2 : FVec Ideal S96x2x8960 .bf16) (X3 : IVec S96x2x8960 8) (X4 : IVec S140x768x128 32)
    (p : Fin 2) (k : Fin 1536) (n : Fin 8960) :
    weights (F := Ideal) X1 X2 X3 X4 (ix3 p k n) = entry (X1 (ix3 ⟨k.val / 2, by omega⟩ p n)) (X3 (ix3 ⟨k.val / 16, by omega⟩ p n)) k.val
      (X2 (ix3 ⟨k.val / 16, by omega⟩ p n)) (X4 (ix3 ⟨p.val * 70 + n.val / 128, by omega⟩ ⟨k.val / 2, by omega⟩ ⟨n.val % 128, by omega⟩)) := by
  pointwise [weights, pairs, outliers, codes4]
  unfold entry
  have e : ∀ h, (⟨k.val / 16 * 8 + k.val % 16 / 2, h⟩ : Fin 768) = ⟨k.val / 2, by omega⟩ := fun h => Fin.ext (by simp only; omega)
  simp only [e]
  refine congrArg₂ (· + ·) (congrArg₂ (· * ·) ?_ rfl) ?_
  · rw [EReal.coe_sub]
    refine congrArg₂ (· - ·) ?_ ?_
    · by_cases h : k.val % 2 = 0
      · rw [dif_pos (by omega)]
        show (((BitVec.toInt _ : ℤ) : ℝ) : EReal) = _
        rw [toInt_lo]
        unfold nib
        rw [if_pos h]
        norm_cast
      · rw [dif_neg (by omega)]
        show (((BitVec.toInt _ : ℤ) : ℝ) : EReal) = _
        rw [toInt_hi]
        unfold nib
        rw [if_neg h]
        norm_cast
    · show (((BitVec.toInt _ : ℤ) : ℝ) : EReal) = _
      rw [toInt_byte]
      norm_cast
  · rw [Nat.mul_comm 16]
    refine congrArg (fun j => Ideal.ofBits .bf16 (BitVec.extractLsb' (k.val % 2 * 16) 16 (X4 j))) ?_
    idx_ext
    all_goals rfl

end Cert.ReferenceIdeal
-- ==== Proof.Math.Acts.lean ====
/- One entry of silu(gate) * up, in the kernel's row block and in the reference's array, and that they are the same. -/
module

public import proofs.«01_k».proof.Proof.Math.Weights

@[expose] public section

set_option maxRecDepth 16384

noncomputable section

namespace Cert.Nibbles

open Idealize.ShloMosaic

/-- silu(g) * u. -/
def glu (g u : EReal) : EReal := g * Ideal.div 1 (1 + Ideal.exp (-g)) * u

theorem one_add_exp_ne (x : EReal) : 1 + Ideal.exp x ≠ 0 := by
  have h : 0 ≤ Ideal.exp x := by
    induction x with
    | bot => exact le_refl 0
    | top => exact le_top
    | coe r => exact EReal.coe_nonneg.2 (Real.exp_pos r).le
  intro e
  have : (1 : EReal) ≤ 1 + Ideal.exp x := le_add_of_nonneg_right h
  rw [e] at this
  exact absurd this (by norm_num)

theorem glu_eq (g u : EReal) : Ideal.div g (1 + Ideal.exp (0 - g)) * u = glu g u := by
  have e : (0 : EReal) - g = -g := by rw [sub_eq_add_neg, zero_add]
  rw [e]
  unfold glu Ideal.div
  rw [if_neg (one_add_exp_ne _), if_neg (one_add_exp_ne _), one_mul]

theorem entry_mod (v z : BitVec 8) (a r : Nat) (s : EReal) (o : BitVec 32) (h : a % 2 = r % 2) : entry v z a s o = entry v z r s o := by
  unfold entry
  rw [nib_add v a r h, h]

end Cert.Nibbles

namespace Cert.KernelIdeal

open Cert.KernelIdeal Cert.KernelIdeal.Gen Cert.Nibbles
open Idealize.ShloMosaic Idealize.ShloMosaic.TcCoe Idealize.SL.Sem

attribute [local instance] Cert.KernelIdeal.Gen.facts

theorem rowsOf_at (X2 : Vec Ideal S8192x1536 .bf16) (k : Fin 8) (m : Fin 4) (a : Fin 256) (j : Fin 1536) :
    rowsOf X2 k m (ix2 a j) = X2 (ix2 ⟨1024 * k.val + 256 * m.val + a.val, by omega⟩ j) := by
  pointwise [rowsOf]

theorem hOf_at (X2 : Vec Ideal S8192x1536 .bf16) (W : Vec Ideal S1536x512 .bf16) (k : Fin 8) (m : Fin 4) (c : Fin 2) (a : Fin 256) (b : Fin 128) :
    hOf X2 W k m c (ix2 a b) = glu (∑ x : Fin 1536, (X2 (ix2 ⟨1024 * k.val + 256 * m.val + a.val, by omega⟩ x) : EReal) * W (ix2 x ⟨128 * c.val + b.val, by omega⟩))
      (∑ x : Fin 1536, (X2 (ix2 ⟨1024 * k.val + 256 * m.val + a.val, by omega⟩ x) : EReal) * W (ix2 x ⟨256 + (128 * c.val + b.val), by omega⟩)) := by
  pointwise [hOf, cols, act, acc, rowsOf_at]
  exact glu_eq _ _

end Cert.KernelIdeal

namespace Cert.ReferenceIdeal

open Cert.ReferenceIdeal Cert.Nibbles
open Idealize.ShloMosaic Idealize.ShloMosaic.TcCoe Idealize.SL.Sem

attribute [local instance] Cert.ReferenceIdeal.Gen.facts

theorem acts_at (X0 : FVec Ideal S16x512x1536 .bf16) (W : FVec Ideal S2x1536x8960 .bf16) (a : Fin 16) (b : Fin 512) (n : Fin 8960) :
    acts X0 W (ix3 a b n) = glu (∑ x : Fin 1536, (X0 (ix3 a b x) : EReal) * W (ix3 0 x n)) (∑ x : Fin 1536, (X0 (ix3 a b x) : EReal) * W (ix3 1 x n)) := by
  pointwise [acts, gate, up]
  rfl

end Cert.ReferenceIdeal

namespace Cert.KernelIdeal.Value

open Cert.KernelIdeal Cert.KernelIdeal.Gen Cert.Nibbles
open Idealize.ShloMosaic Idealize.ShloMosaic.TcCoe Idealize.SL.Sem

attribute [local instance] Cert.KernelIdeal.Gen.facts Cert.ReferenceIdeal.Gen.facts

variable (X0 : FVec Ideal S16x512x1536 .bf16) (X1 : IVec S768x2x8960 8) (X2 : FVec Ideal S96x2x8960 .bf16) (X3 : IVec S96x2x8960 8) (X4 : IVec S140x768x128 32)
  (A0 : Vec Ideal S8192x1536 .bf16) (A1 : Vec Ideal S2x768x8960 .i8) (A3 : Vec Ideal S2x96x8960 .i8)

/-- The weights of a column block are the reference's. -/
theorem weight_at (h1 : ∀ p r n, A1 (ix3 p r n) = X1 (ix3 r p n)) (h3 : ∀ p g n, A3 (ix3 p g n) = X3 (ix3 g p n)) (hz : ∀ i, (X3 i).toNat ≤ 128)
    (n : Fin 35) (p c : Fin 2) (j : Fin 1536) (b : Fin 128) (i : S1536x512.Idx) (i0 : (i 0).val = j.val) (i1 : (i 1).val = 256 * p.val + 128 * c.val + b.val) :
    weight (packedBlk A1 n.val) (scaleBlk (F := Ideal) X2 n.val) (zeroBlk A3 n.val) (outBlk (F := Ideal) X4 n.val) (outBlk (F := Ideal) X4 (n.val + 35)) i
      = Cert.ReferenceIdeal.weights (F := Ideal) X1 X2 X3 X4 (ix3 p j ⟨256 * n.val + 128 * c.val + b.val, by omega⟩) := by
  have e : (⟨(256 * n.val + (128 * c.val + b.val)) % 8960, Nat.mod_lt _ (by decide)⟩ : Fin 8960) = ⟨256 * n.val + 128 * c.val + b.val, by omega⟩ :=
    Fin.ext (by simp only; omega)
  have ez : zeroBlk A3 n.val (ix3 p ⟨j.val / 16, by omega⟩ ⟨128 * c.val + b.val, by omega⟩)
      = X3 (ix3 ⟨j.val / 16, by omega⟩ p ⟨256 * n.val + 128 * c.val + b.val, by omega⟩) :=
    (congrArg (fun y => A3 (ix3 p ⟨j.val / 16, by omega⟩ y)) e).trans (h3 _ _ _)
  have eo : outs (F := Ideal) (outBlk (F := Ideal) X4 n.val) (outBlk (F := Ideal) X4 (n.val + 35)) p (ix3 c ⟨8 * (j.val / 16) + j.val % 16 / 2, by omega⟩ b)
      = X4 (ix3 ⟨p.val * 70 + (256 * n.val + 128 * c.val + b.val) / 128, by omega⟩ ⟨j.val / 2, by omega⟩
        ⟨(256 * n.val + 128 * c.val + b.val) % 128, Nat.mod_lt _ (by decide)⟩) := by
    match p with
    | 0 =>
      refine congrArg X4 ?_
      idx_ext
      all_goals omega
    | 1 =>
      refine congrArg X4 ?_
      idx_ext
      all_goals omega
  rw [weight_eq _ _ _ _ _ i p c ⟨j.val / 16, by omega⟩ (ix2 ⟨j.val % 16, by omega⟩ b) (by rw [i0]; show _ = 16 * (j.val / 16) + j.val % 16; omega) i1,
    groupAt_at _ _ _ _ _ _ _ _ _ (by rw [ez]; exact hz _), Cert.ReferenceIdeal.weights_at, ez, eo, entry_mod _ _ (j.val % 16) j.val _ _ (by omega)]
  have er : (⟨8 * (j.val / 16) + j.val % 16 / 2, by omega⟩ : Fin 768) = ⟨j.val / 2, by omega⟩ := Fin.ext (by simp only; omega)
  have ec : packedBlk A1 n.val (ix3 p ⟨8 * (j.val / 16) + j.val % 16 / 2, by omega⟩ ⟨128 * c.val + b.val, by omega⟩)
      = X1 (ix3 ⟨j.val / 2, by omega⟩ p ⟨256 * n.val + 128 * c.val + b.val, by omega⟩) :=
    (congrArg₂ (fun x y => A1 (ix3 p x y)) er e).trans (h1 _ _ _)
  have es : scaleBlk (F := Ideal) X2 n.val (ix3 ⟨j.val / 16, by omega⟩ p ⟨128 * c.val + b.val, by omega⟩)
      = X2 (ix3 ⟨j.val / 16, by omega⟩ p ⟨256 * n.val + 128 * c.val + b.val, by omega⟩) :=
    congrArg (fun y => X2 (ix3 ⟨j.val / 16, by omega⟩ p y)) e
  rw [ec, es]

/-- silu(gate) * up of a row block is the reference's. -/
theorem hOf_eq (h0 : ∀ (r : Fin 8192) j, A0 (ix2 r j) = X0 (ix3 ⟨r.val / 512, by omega⟩ ⟨r.val % 512, by omega⟩ j)) (h1 : ∀ p r n, A1 (ix3 p r n) = X1 (ix3 r p n))
    (h3 : ∀ p g n, A3 (ix3 p g n) = X3 (ix3 g p n)) (hz : ∀ i, (X3 i).toNat ≤ 128) (n : Fin 35) (k : Fin 8) (m : Fin 4) (c : Fin 2) (a : Fin 256) (b : Fin 128) :
    hOf A0 (weight (packedBlk A1 n.val) (scaleBlk (F := Ideal) X2 n.val) (zeroBlk A3 n.val) (outBlk (F := Ideal) X4 n.val) (outBlk (F := Ideal) X4 (n.val + 35)))
        k m c (ix2 a b)
      = Cert.ReferenceIdeal.acts (F := Ideal) X0 (Cert.ReferenceIdeal.weights X1 X2 X3 X4)
        (ix3 ⟨(1024 * k.val + 256 * m.val + a.val) / 512, by omega⟩ ⟨(1024 * k.val + 256 * m.val + a.val) % 512, by omega⟩ ⟨256 * n.val + 128 * c.val + b.val, by omega⟩) := by
  rw [hOf_at, Cert.ReferenceIdeal.acts_at]
  refine congrArg₂ glu (Finset.sum_congr rfl fun x _ => ?_) (Finset.sum_congr rfl fun x _ => ?_)
  · rw [h0, weight_at X1 X2 X3 X4 A1 A3 h1 h3 hz n 0 c x b _ rfl (by simp)]
  · rw [h0, weight_at X1 X2 X3 X4 A1 A3 h1 h3 hz n 1 c x b _ rfl (by show 256 + (128 * c.val + b.val) = _; simp; omega)]

end Cert.KernelIdeal.Value
-- ==== Proof.Math.Ladder.lean ====
/- The exponent of a number: found bit by bit in the exponent field, and by a logarithm. The two agree. -/
module

public import Idealize.ShloMosaic.PureOps
public import Idealize.ShloMosaic.Lib.IdealHost
public import Mathlib.Analysis.SpecialFunctions.Pow.Real

@[expose] public section

noncomputable section

namespace Cert.Ladder

open Idealize.ShloMosaic

/-- One bit of the field: kept when the number the word stands for is at most y. -/
def step (y : EReal) (b e : BitVec 32) : BitVec 32 := if Ideal.ofBits .f32 (e ||| b) ≤ y then e ||| b else e

/-- The exponent field of y, from its highest bit to its lowest. -/
def field (y : EReal) : BitVec 32 :=
  step y 8388608#32 (step y 16777216#32 (step y 33554432#32 (step y 67108864#32 (step y 134217728#32
    (step y 268435456#32 (step y 536870912#32 (step y 1073741824#32 0#32)))))))

/-- The field, 126 where it is 0 or all ones. -/
def expo (y : EReal) : BitVec 32 := if field y = 0#32 ∨ field y = 2139095040#32 then 1056964608#32 else field y

/-- The exponent by a logarithm, 0 below the least normal number. -/
def refExpo (y : EReal) : EReal :=
  if y < Ideal.ofBits .f32 0x00800000#32 then 0
  else Ideal.liftRound Int.floor (Ideal.div (Ideal.log y) (Ideal.log (Ideal.ofBits .f32 0x40000000#32))) + 1

/-- The word whose exponent field is E. -/
def word (E : Fin 256) : BitVec 32 := BitVec.ofNat 32 (E.val * 8388608)

theorem fields_word : ∀ E : Fin 256, (word E).extractLsb' 31 1 = 0#1 ∧ ((word E).extractLsb' 23 8).toNat = E.val ∧ ((word E).extractLsb' 0 23).toNat = 0 := by
  decide +kernel

theorem ofBits_word (E : Fin 256) : Ideal.ofBits .f32 (word E)
    = if E.val = 255 then ⊤ else if E.val = 0 then 0 else (((2 : ℝ) ^ ((E.val : ℤ) - 127) : ℝ) : EReal) := by
  obtain ⟨h1, h2, h3⟩ := fields_word E
  show Ideal.ieee 8 23 (word E) = _
  unfold Ideal.ieee
  simp only [show 8 + 23 = 31 from rfl, h1, h2, h3]
  by_cases h255 : E.val = 255
  · simp [h255]
  · by_cases h0 : E.val = 0
    · simp [h0]
    · simp only [show (2 : ℕ) ^ 8 - 1 = 255 from rfl, h255, h0, if_false]
      refine congrArg _ ?_
      have : ((E.val : ℤ) - (2 ^ (8 - 1) - 1) - (23 : ℕ)) = ((E.val : ℤ) - 127) + (-23) := by norm_num; ring
      rw [this, zpow_add₀ (by norm_num)]
      simp
      ring_nf

/-- The ladder over the numbers that the words' fields are. -/
def stepN (M : Fin 256) (b e : BitVec 32) : BitVec 32 := if ((e ||| b) >>> 23).toNat ≤ M.val then e ||| b else e

def fieldN (M : Fin 256) : BitVec 32 :=
  stepN M 8388608#32 (stepN M 16777216#32 (stepN M 33554432#32 (stepN M 67108864#32 (stepN M 134217728#32
    (stepN M 268435456#32 (stepN M 536870912#32 (stepN M 1073741824#32 0#32)))))))

theorem fieldN_eq : ∀ M : Fin 256, fieldN M = word M := by decide +kernel

/-- Only the exponent field is set. -/
def Clean (w : BitVec 32) : Prop := w &&& 0x807fffff#32 = 0#32

instance (w : BitVec 32) : Decidable (Clean w) := inferInstanceAs (Decidable (w &&& 0x807fffff#32 = 0#32))

theorem Clean.or {a b : BitVec 32} (ha : Clean a) (hb : Clean b) : Clean (a ||| b) := by
  unfold Clean at *
  rw [BitVec.and_comm, BitVec.and_or_distrib_left, BitVec.and_comm _ a, ha, BitVec.and_comm, hb]
  rfl

theorem Clean.eq_word {w : BitVec 32} (h : Clean w) : ∃ h : (w >>> 23).toNat < 256, w = word ⟨(w >>> 23).toNat, h⟩ := by
  have hb : ∀ i, (hi : i < 32) → (i < 23 ∨ i = 31) → w.getLsbD i = false := by
    intro i hi hc
    have := congrArg (fun v => v.getLsbD i) h
    simp only [BitVec.getLsbD_and, BitVec.getLsbD_zero] at this
    have hm : ∀ i : Fin 32, (i.val < 23 ∨ i.val = 31) → (0x807fffff#32).getLsbD i.val = true := by decide
    rw [hm ⟨i, hi⟩ hc, Bool.and_true] at this
    exact this
  have hlow : w.toNat % 8388608 = 0 := by
    have : w.setWidth 23 = 0#23 := by
      apply BitVec.eq_of_getLsbD_eq
      intro i hi
      simp only [BitVec.getLsbD_setWidth, BitVec.getLsbD_zero, hi, decide_true, Bool.true_and]
      exact hb i (by omega) (.inl hi)
    have := congrArg BitVec.toNat this
    simpa using this
  have hhi : w.toNat < 2 ^ 31 := by
    have : w.msb = false := by
      rw [BitVec.msb_eq_getLsbD_last]
      exact hb 31 (by omega) (.inr rfl)
    have := BitVec.toNat_lt_of_msb_false this
    simpa using this
  have hs : (w >>> 23).toNat = w.toNat / 8388608 := by
    rw [BitVec.toNat_ushiftRight, Nat.shiftRight_eq_div_pow]
  refine ⟨by omega, ?_⟩
  apply BitVec.eq_of_toNat_eq
  simp only [word, BitVec.toNat_ofNat, hs]
  have := w.isLt
  omega

/-- The integer part of the logarithm to base 2. -/
def lg (r : ℝ) : ℤ := ⌊Real.log r / Real.log 2⌋

theorem le_lg {r : ℝ} (h : 0 < r) (k : ℤ) : (2 : ℝ) ^ k ≤ r ↔ k ≤ lg r := by
  unfold lg
  rw [Int.le_floor, le_div_iff₀ (Real.log_pos (by norm_num)), ← Real.log_zpow, Real.log_le_log_iff (by positivity) h]

/-- The word of field E is at most y exactly for E up to M. -/
def Below (y : EReal) (M : Fin 256) : Prop := ∀ E : Fin 256, Ideal.ofBits .f32 (word E) ≤ y ↔ E.val ≤ M.val

theorem step_eq {y : EReal} {M : Fin 256} (hM : Below y M) {b e : BitVec 32} (hb : Clean b) (he : Clean e) :
    step y b e = stepN M b e ∧ Clean (stepN M b e) := by
  obtain ⟨hl, hw⟩ := (he.or hb).eq_word
  have := hM ⟨_, hl⟩
  rw [← hw] at this
  unfold step stepN
  refine ⟨by simp only [this], ?_⟩
  split
  · exact he.or hb
  · exact he

theorem field_eq {y : EReal} {M : Fin 256} (hM : Below y M) : field y = word M := by
  rw [← fieldN_eq M]
  unfold field fieldN
  have s0 : Clean 0#32 := by decide
  obtain ⟨e1, s1⟩ := step_eq hM (b := 1073741824#32) (by decide) s0
  obtain ⟨e2, s2⟩ := step_eq hM (b := 536870912#32) (by decide) s1
  obtain ⟨e3, s3⟩ := step_eq hM (b := 268435456#32) (by decide) s2
  obtain ⟨e4, s4⟩ := step_eq hM (b := 134217728#32) (by decide) s3
  obtain ⟨e5, s5⟩ := step_eq hM (b := 67108864#32) (by decide) s4
  obtain ⟨e6, s6⟩ := step_eq hM (b := 33554432#32) (by decide) s5
  obtain ⟨e7, s7⟩ := step_eq hM (b := 16777216#32) (by decide) s6
  obtain ⟨e8, -⟩ := step_eq hM (b := 8388608#32) (by decide) s7
  rw [e1, e2, e3, e4, e5, e6, e7, e8]

theorem ofBits_two : Ideal.ofBits .f32 0x40000000#32 = ((2 : ℝ) : EReal) := by
  rw [show (0x40000000#32 : BitVec 32) = word 128 from rfl, ofBits_word]
  norm_num

theorem ofBits_least : Ideal.ofBits .f32 0x00800000#32 = (((2 : ℝ) ^ (-126 : ℤ) : ℝ) : EReal) := by
  rw [show (0x00800000#32 : BitVec 32) = word 1 from rfl, ofBits_word]
  rw [if_neg (by decide), if_neg (by decide)]
  norm_num

theorem below_small {r : ℝ} (h0 : 0 ≤ r) (h : r < (2 : ℝ) ^ (-126 : ℤ)) : Below (r : EReal) 0 := by
  intro E
  rw [ofBits_word]
  split
  · rename_i h'
    simp [h']
  · split
    · rename_i h'
      simp [h', h0]
    · rename_i h1 h2
      have : ((0 : Fin 256).val) = 0 := rfl
      rw [this, EReal.coe_le_coe_iff]
      constructor
      · intro h'
        exfalso
        have : (2 : ℝ) ^ (-126 : ℤ) ≤ (2 : ℝ) ^ ((E.val : ℤ) - 127) := zpow_le_zpow_right₀ (by norm_num) (by omega)
        linarith
      · intro h'; omega

theorem below_log {r : ℝ} (h0 : 0 < r) (M : Fin 256) (hM1 : 1 ≤ M.val) (hM2 : M.val < 255) (hM : (M.val : ℤ) - 127 = lg r) : Below (r : EReal) M := by
  intro E
  rw [ofBits_word]
  split
  · rename_i h'
    simp [h']
    omega
  · split
    · rename_i h'
      simp [h', h0.le]
    · rename_i h1 h2
      rw [EReal.coe_le_coe_iff]
      rw [le_lg h0, ← hM]
      omega

/-- Two to an integer power, as the exponential of its logarithm. -/
theorem exp_log_two (k : ℤ) : Ideal.exp (((k : ℝ) : EReal) * Ideal.log (Ideal.ofBits .f32 0x40000000#32)) = (((2 : ℝ) ^ k : ℝ) : EReal) := by
  rw [ofBits_two]
  have : Ideal.log ((2 : ℝ) : EReal) = ((Real.log 2 : ℝ) : EReal) := by
    show (if (2 : ℝ) ≤ 0 then ⊥ else ((Real.log 2 : ℝ) : EReal)) = _
    rw [if_neg (by norm_num)]
  rw [this, ← EReal.coe_mul]
  show ((Real.exp ((k : ℝ) * Real.log 2) : ℝ) : EReal) = _
  refine congrArg _ ?_
  rw [mul_comm, Real.exp_mul, Real.exp_log (by norm_num), Real.rpow_intCast]

theorem refExpo_small {r : ℝ} (h : r < (2 : ℝ) ^ (-126 : ℤ)) : refExpo (r : EReal) = 0 := by
  unfold refExpo
  rw [ofBits_least, if_pos (EReal.coe_lt_coe_iff.mpr h)]

theorem refExpo_log {r : ℝ} (h : (2 : ℝ) ^ (-126 : ℤ) ≤ r) : refExpo (r : EReal) = (((lg r + 1 : ℤ) : ℝ) : EReal) := by
  have h0 : 0 < r := lt_of_lt_of_le (by positivity) h
  unfold refExpo
  rw [ofBits_least, if_neg (fun h' => absurd (EReal.coe_lt_coe_iff.mp h') (not_lt.mpr h)), ofBits_two]
  have e2 : Ideal.log ((2 : ℝ) : EReal) = ((Real.log 2 : ℝ) : EReal) := by
    show (if (2 : ℝ) ≤ 0 then ⊥ else ((Real.log 2 : ℝ) : EReal)) = _
    rw [if_neg (by norm_num)]
  have er : Ideal.log (r : EReal) = ((Real.log r : ℝ) : EReal) := by
    show (if r ≤ 0 then ⊥ else ((Real.log r : ℝ) : EReal)) = _
    rw [if_neg (not_le.mpr h0)]
  rw [e2, er, Ideal.div_coe (Real.log_pos (by norm_num)).ne', ← EReal.coe_mul]
  show (((⌊Real.log r * (1 / Real.log 2)⌋ : ℤ) : ℝ) : EReal) + 1 = _
  rw [mul_one_div]
  push_cast
  rfl

theorem word_add_sub : ∀ M : Fin 256, (h : M.val < 253) →
    word M + 8388608#32 = word ⟨M.val + 1, by omega⟩ ∧ 2122317824#32 - word M = word ⟨253 - M.val, by omega⟩ := by
  decide +kernel

/-- The scale and its inverse, from the field and from the logarithm. -/
theorem quant {r : ℝ} (h0 : 0 ≤ r) (h1 : r < (2 : ℝ) ^ (126 : ℤ)) :
    Ideal.ofBits .f32 (expo (r : EReal) + 8388608#32) = Ideal.exp (refExpo (r : EReal) * Ideal.log (Ideal.ofBits .f32 0x40000000#32))
    ∧ Ideal.ofBits .f32 (2122317824#32 - expo (r : EReal)) = Ideal.exp (-refExpo (r : EReal) * Ideal.log (Ideal.ofBits .f32 0x40000000#32)) := by
  rcases lt_or_ge r ((2 : ℝ) ^ (-126 : ℤ)) with h | h
  · have hf := field_eq (below_small h0 h)
    have he : expo (r : EReal) = 1056964608#32 := by
      unfold expo
      rw [hf, if_pos (.inl rfl)]
    have hz := exp_log_two 0
    rw [he, refExpo_small h]
    rw [show ((1056964608#32 + 8388608#32 : BitVec 32)) = word 127 from rfl, show ((2122317824#32 - 1056964608#32 : BitVec 32)) = word 127 from rfl, ofBits_word]
    simp only [Int.cast_zero, EReal.coe_zero] at hz
    rw [neg_zero, hz]
    norm_num
  · have hp : 0 < r := lt_of_lt_of_le (by positivity) h
    have hl1 : -126 ≤ lg r := by
      rwa [← le_lg hp]
    have hl2 : lg r < 126 := by
      rwa [← not_le, ← le_lg hp, not_le]
    obtain ⟨M, hM⟩ : ∃ M : Fin 256, (M.val : ℤ) - 127 = lg r := ⟨⟨(lg r + 127).toNat, by omega⟩, by simp only; omega⟩
    have hf := field_eq (below_log hp M (by omega) (by omega) hM)
    have he : expo (r : EReal) = word M := by
      unfold expo
      rw [hf, if_neg]
      have hw : ∀ M : Fin 256, 1 ≤ M.val → M.val < 255 → ¬ (word M = 0#32 ∨ word M = 2139095040#32) := by decide +kernel
      exact hw M (by omega) (by omega)
    obtain ⟨ha1, ha2⟩ := word_add_sub M (by omega)
    rw [he, ha1, ha2, refExpo_log h, exp_log_two, ← EReal.coe_neg, ← Int.cast_neg, exp_log_two, ofBits_word, ofBits_word]
    simp only
    rw [if_neg (by omega), if_neg (by omega), if_neg (by omega), if_neg (by omega)]
    refine ⟨?_, ?_⟩
    · rw [show ((M.val + 1 : ℕ) : ℤ) - 127 = lg r + 1 by omega]
    · rw [show ((253 - M.val : ℕ) : ℤ) - 127 = -(lg r + 1) by omega]

end Cert.Ladder
-- ==== Proof.Math.RefQuant.lean ====
/- One entry of the reference's codes and of its scales, from silu(gate) * up. -/
module

public import proofs.«01_k».proof.Proof.Ref.Terms
public import proofs.«01_k».proof.Proof.Math.Ladder
public import Idealize.ShloMosaic.Lib.ValueLayout
public import Idealize.ShloMosaic.Lib.IdealHost
public import Idealize.ShloMosaic.Lib.Pointwise

@[expose] public section

set_option maxRecDepth 16384

noncomputable section

namespace Cert.ReferenceIdeal

open Cert.ReferenceIdeal
open Idealize.ShloMosaic Idealize.ShloMosaic.TcCoe Idealize.SL.Sem

attribute [local instance] Cert.ReferenceIdeal.Gen.facts

theorem groups_at {α : Type} (H : S16x512x8960.Idx → α) (h : S16x512x8960.ShapeCasts S16x512x70x128) (a : Fin 16) (b : Fin 512) (g : Fin 70) (l : Fin 128) :
    shapeCast S16x512x70x128 H h (ix4 a b g l) = H (ix3 a b ⟨128 * g.val + l.val, by omega⟩) := by
  refine shapeCast_apply H h _ _ ?_
  rw [Shape.rowMajor_val_three, Shape.rowMajor_val_four]
  simp [ix2, ix3, ix4, ix5]
  omega

theorem flat_at {α : Type} (Z : S16x512x70x128.Idx → α) (h : S16x512x70x128.ShapeCasts S8192x8960) (r : Fin 8192) (n : Fin 8960) :
    shapeCast S8192x8960 Z h (ix2 r n) = Z (ix4 ⟨r.val / 512, by omega⟩ ⟨r.val % 512, by omega⟩ ⟨n.val / 128, by omega⟩ ⟨n.val % 128, by omega⟩) := by
  refine shapeCast_apply Z h _ _ ?_
  rw [Shape.rowMajor_val_two, Shape.rowMajor_val_four]
  simp [ix2, ix3, ix4, ix5]
  omega

theorem batches_at {α : Type} (Z : S16x512x70.Idx → α) (h : S16x512x70.ShapeCasts S2x8x4x128x70) (i : Fin 2) (j : Fin 8) (k : Fin 4) (n : Fin 128) (g : Fin 70) :
    shapeCast S2x8x4x128x70 Z h (ix5 i j k n g) = Z (ix3 ⟨8 * i.val + j.val, by omega⟩ ⟨128 * k.val + n.val, by omega⟩ g) := by
  refine shapeCast_apply Z h _ _ ?_
  rw [Shape.rowMajor_val_three, Shape.rowMajor_val_five]
  simp [ix2, ix3, ix4, ix5]
  omega

theorem fold_at {α : Type} {n0 n1 n2 n3 : Nat} (op : α → α → α) [Std.Commutative op] [Std.Associative op] (G : (⟨4, ![n0, n1, n2, n3]⟩ : Shape).Idx → α) (init : S_.Idx → α)
    (h : (⟨4, ![n0, n1, n2, n3]⟩ : Shape).ReducesTo [3] ⟨3, ![n0, n1, n2]⟩) (hu : 0 < S_.numel) (a : Fin n0) (b : Fin n1) (g : Fin n2) :
    Host.reduce op G init h hu (ix3 a b g) = (Finset.univ : Finset (Fin n3)).fold op (init (Shape.Idx.first hu)) fun k => G (ix4 a b g k) :=
  (Host.reduce_eq_fold op G init h hu (ix3 a b g)).trans (Shape.ReducesTo.fold_fiber_r4_a3 h (ix3 a b g) op (init (Shape.Idx.first hu)) G)

/-- The largest absolute value of 128 values, over 448. -/
def top (f : Fin 128 → EReal) : EReal :=
  (Finset.univ : Finset (Fin 128)).fold max (Ideal.ofBits .f32 0xFF800000#32) (fun x => max (f x) (-f x)) * Ideal.ofBits .f32 0x3B124925#32

theorem scaled_at (R : FVec Ideal S16x512x70 .f32) (a : Fin 16) (b : Fin 512) (g : Fin 70) :
    mulf R (broadcastInDim S16x512x70 ![] Facts₀.bcast_S_S16x512x70 (constant S_ .f32 0x3B124925#32)) (ix3 a b g) = (R (ix3 a b g) : EReal) * Ideal.ofBits .f32 0x3B124925#32 := by
  pointwise

theorem tops_at (H : FVec Ideal S16x512x8960 .f32) (a : Fin 16) (b : Fin 512) (g : Fin 70) :
    tops H (ix3 a b g) = top fun l => H (ix3 a b ⟨128 * g.val + l.val, by omega⟩) := by
  unfold tops
  rw [scaled_at]
  unfold top
  refine congrArg (fun y : EReal => y * Ideal.ofBits .f32 0x3B124925#32) ?_
  rw [fold_at]
  refine Finset.fold_congr fun l _ => ?_
  exact congrArg (fun y : EReal => max y (-y)) (groups_at H _ a b g l)

theorem expos_at (Y : FVec Ideal S16x512x70 .f32) (a : Fin 16) (b : Fin 512) (g : Fin 70) : expos Y (ix3 a b g) = Cert.Ladder.refExpo (Y (ix3 a b g)) := by
  pointwise [expos, ln2]
  rfl

/-- A value over a scale, clipped to 448. -/
def clip (x s : EReal) : EReal := min (Ideal.ofBits .f32 0x43E00000#32) (max (Ideal.ofBits .f32 0xC3E00000#32) (x * s))

/-- The inverse of the reference's scale, from its exponent. -/
def invOf (e : EReal) : EReal := Ideal.exp (-e * Ideal.log (Ideal.ofBits .f32 0x40000000#32))
/-- The reference's scale, from its exponent. -/
def scaleOf (e : EReal) : EReal := Ideal.exp (e * Ideal.log (Ideal.ofBits .f32 0x40000000#32))

theorem invs_at (E : FVec Ideal S16x512x70 .f32) (a : Fin 16) (b : Fin 512) (g : Fin 70) : invs E (ix3 a b g) = invOf (E (ix3 a b g)) := by
  pointwise [invs, ln2]
  rfl

theorem rowScales_at (E : FVec Ideal S16x512x70 .f32) (a : Fin 16) (b : Fin 512) (g : Fin 70) : rowScales E (ix3 a b g) = scaleOf (E (ix3 a b g)) := by
  pointwise [rowScales, ln2]
  rfl

theorem clip_at (G : FVec Ideal S16x512x70x128 .f32) (I : FVec Ideal S16x512x70 .f32) (a : Fin 16) (b : Fin 512) (g : Fin 70) (l : Fin 128) :
    (Host.convertf .fp8e4m3 (minimumf (broadcastInDim S16x512x70x128 ![] Facts₀.bcast_S_S16x512x70x128 (constant S_ .f32 0x43E00000#32))
    (maximumf (broadcastInDim S16x512x70x128 ![] Facts₀.bcast_S_S16x512x70x128 (constant S_ .f32 0xC3E00000#32))
      (mulf G (broadcastInDim S16x512x70x128 ![0, 1, 2, 3] Facts₀.bcast_S16x512x70x1_S16x512x70x128_0_1_2_3
          (broadcastInDim S16x512x70x1 ![0, 1, 2] Facts₀.bcast_S16x512x70_S16x512x70x1_0_1_2 I))))) : FVec Ideal S16x512x70x128 .fp8e4m3) (ix4 a b g l)
      = clip (G (ix4 a b g l)) (I (ix3 a b g)) := by
  pointwise
  rfl

theorem reorder_at {α : Type} (Z : S2x8x4x128x70.Idx → α) (i : Fin 70) (j : Fin 2) (k : Fin 4) (l : Fin 8) (n : Fin 128) :
    transpose S70x2x4x8x128 [4, 0, 2, 1, 3] Z Facts₀.transposes_S2x8x4x128x70_S70x2x4x8x128_4_0_2_1_3 (ix5 i j k l n) = Z (ix5 j l k n i) := by
  pointwise

theorem resultCodes_at (H : FVec Ideal S16x512x8960 .f32) (r : Fin 8192) (n : Fin 8960) :
    resultCodes H (ix2 r n) = clip (H (ix3 ⟨r.val / 512, by omega⟩ ⟨r.val % 512, by omega⟩ n))
      (invOf (expos (tops H) (ix3 ⟨r.val / 512, by omega⟩ ⟨r.val % 512, by omega⟩ ⟨n.val / 128, by omega⟩))) := by
  have en : (⟨128 * (n.val / 128) + n.val % 128, by omega⟩ : Fin 8960) = n := Fin.ext (by simp only; omega)
  unfold resultCodes
  rw [flat_at, clip_at, groups_at, invs_at]
  simp only [en]

theorem resultScales_at (H : FVec Ideal S16x512x8960 .f32) (i : Fin 70) (j : Fin 2) (k : Fin 4) (l : Fin 8) (n : Fin 128) :
    resultScales H (ix5 i j k l n) = scaleOf (expos (tops H) (ix3 ⟨8 * j.val + l.val, by omega⟩ ⟨128 * k.val + n.val, by omega⟩ i)) := by
  unfold resultScales
  rw [reorder_at, batches_at, rowScales_at]

end Cert.ReferenceIdeal
-- ==== Proof.Math.KernelQuant.lean ====
/- One entry of the kernel's codes and of its scales, from a half row block of silu(gate) * up. -/
module

public import proofs.«01_k».proof.Proof.Math.Acts
public import proofs.«01_k».proof.Proof.Math.RefQuant

@[expose] public section

set_option maxRecDepth 16384

noncomputable section

namespace Cert.KernelIdeal

open Cert.KernelIdeal Cert.KernelIdeal.Gen
open Cert.ReferenceIdeal (top clip)
open Idealize.ShloMosaic Idealize.ShloMosaic.TcCoe Idealize.SL.Sem

attribute [local instance] Cert.KernelIdeal.Gen.facts

theorem rowMax_at (h : FVec Ideal S256x128 .f32) (a : Fin 256) : rowMax h (ix2 a 0) = top fun l => h (ix2 a l) := by
  pointwise [rowMax]
  rfl

theorem bitStep_at (y : FVec Ideal S256x1 .f32) (b : BitVec 32) (e : IVec S256x1 32) (i : S256x1.Idx) :
    bitStep y b e i = Cert.Ladder.step (y i) b (e i) := by
  show (if Ideal.cmp .oge (y i) (Ideal.ofBits .f32 (e i ||| b)) = 1#1 then e i ||| b else e i) = if Ideal.ofBits .f32 (e i ||| b) ≤ (y i : EReal) then e i ||| b else e i
  have c : Ideal.cmp .oge (y i) (Ideal.ofBits .f32 (e i ||| b)) = 1#1 ↔ Ideal.ofBits .f32 (e i ||| b) ≤ (y i : EReal) := by
    rw [Ideal.cmp]
    by_cases h : Ideal.ofBits .f32 (e i ||| b) ≤ (y i : EReal)
    · simp [h]
    · simp [h]
  simp only [c]

theorem field_at (y : FVec Ideal S256x1 .f32) (i : S256x1.Idx) : field y i = Cert.Ladder.field (y i) := by
  unfold field Cert.Ladder.field
  rw [bitStep_at, bitStep_at, bitStep_at, bitStep_at, bitStep_at, bitStep_at, bitStep_at, bitStep_at]
  rfl

theorem expo_at (h : FVec Ideal S256x128 .f32) (a : Fin 256) : expo h (ix2 a 0) = Cert.Ladder.expo (top fun l => h (ix2 a l)) := by
  pointwise [expo]
  rw [field_at, rowMax_at]
  unfold Cert.Ladder.expo
  generalize Cert.Ladder.field (top fun l => h (ix2 a l)) = f
  by_cases h1 : f = 0#32
  · simp [Scalar.select, IntOp.ori, IntOp.cmpi, h1]
  · by_cases h2 : f = 2139095040#32
    · simp [Scalar.select, IntOp.ori, IntOp.cmpi, h2]
    · simp [Scalar.select, IntOp.ori, IntOp.cmpi, h1, h2, beq_eq_false_iff_ne.2 h1, beq_eq_false_iff_ne.2 h2]

theorem codes_at (h : FVec Ideal S256x128 .f32) (a : Fin 256) (b : Fin 128) :
    codes h (ix2 a b) = clip (h (ix2 a b)) (Ideal.ofBits .f32 (2122317824#32 - Cert.Ladder.expo (top fun l => h (ix2 a l)))) := by
  pointwise [codes]
  rw [expo_at]
  rfl

theorem scales_at (h : FVec Ideal S256x128 .f32) (a : Fin 256) :
    scales h (ix2 a 0) = Ideal.ofBits .f32 (Cert.Ladder.expo (top fun l => h (ix2 a l)) + 8388608#32) := by
  pointwise [scales]
  rw [expo_at]
  rfl

theorem scaleRow_at (r : Fin 2) (s : FVec Ideal S256x1 .f32) (l : Fin 128) : scaleRow r s (ix5 0 0 0 0 l) = s (ix2 ⟨128 * r.val + l.val, by omega⟩ 0) := by
  pointwise [scaleRow]
  rw [Finset.sum_eq_single l]
  · simp [Scalar.select, IntOp.cmpi]
  · intro x _ hx
    have : BitVec.ofNat 32 x.val ≠ BitVec.ofNat 32 l.val := by
      intro e
      have e := congrArg BitVec.toNat e
      simp only [BitVec.toNat_ofNat] at e
      exact hx (Fin.ext (by omega))
    simp [Scalar.select, IntOp.cmpi, beq_eq_false_iff_ne.2 this]
  · intro hl
    exact absurd (Finset.mem_univ l) hl

end Cert.KernelIdeal
-- ==== Proof.Math.Bound.lean ====
/- The largest absolute value over 448 is a real number below 2^126 when the 128 values are at most the largest float32. -/
module

public import proofs.«01_k».proof.Proof.Math.RefQuant

@[expose] public section

set_option maxRecDepth 16384

noncomputable section

namespace Cert.ReferenceIdeal

open Idealize.ShloMosaic

theorem ofBits_max : Ideal.ofBits .f32 0x7F7FFFFF#32 = (((2 : ℝ) ^ (104 : ℤ) * 16777215 : ℝ) : EReal) := by
  simp [Ideal.ofBits, Ideal.ieee, -EReal.coe_mul]
  norm_num

theorem ofBits_inv448 : Ideal.ofBits .f32 0x3B124925#32 = ((9586981 / 4294967296 : ℝ) : EReal) := by
  simp [Ideal.ofBits, Ideal.ieee, -EReal.coe_mul]
  norm_num

theorem ofBits_bot : Ideal.ofBits .f32 0xFF800000#32 = ⊥ := by
  simp [Ideal.ofBits, Ideal.ieee]

theorem top_real (f : Fin 128 → EReal) (h : ∀ l, max (f l) (-f l) ≤ Ideal.ofBits .f32 0x7F7FFFFF#32) :
    ∃ r : ℝ, top f = (r : EReal) ∧ 0 ≤ r ∧ r < (2 : ℝ) ^ (126 : ℤ) := by
  unfold top
  rw [ofBits_max] at h
  rw [ofBits_bot, ofBits_inv448]
  have h1 : (Finset.univ : Finset (Fin 128)).fold max ⊥ (fun x => max (f x) (-f x)) ≤ (((2 : ℝ) ^ (104 : ℤ) * 16777215 : ℝ) : EReal) :=
    (Finset.fold_max_le _).2 ⟨bot_le, fun l _ => h l⟩
  have h0 : 0 ≤ (Finset.univ : Finset (Fin 128)).fold max ⊥ (fun x => max (f x) (-f x)) := by
    refine (Finset.le_fold_max 0).2 (.inr ⟨0, Finset.mem_univ _, ?_⟩)
    rcases le_total 0 (f 0) with e | e
    · exact le_max_of_le_left e
    · exact le_max_of_le_right (by rw [EReal.le_neg, neg_zero]; exact e)
  generalize (Finset.univ : Finset (Fin 128)).fold max ⊥ (fun x => max (f x) (-f x)) = t at h0 h1
  induction t with
  | bot => exact absurd h0 (by simp)
  | top => exact absurd h1 (not_le.2 (EReal.coe_lt_top _))
  | coe t =>
    have t0 : 0 ≤ t := EReal.coe_nonneg.1 h0
    have t1 := EReal.coe_le_coe_iff.1 h1
    refine ⟨t * (9586981 / 4294967296), (EReal.coe_mul _ _).symm, by positivity, ?_⟩
    norm_num at t1 ⊢
    linarith

end Cert.ReferenceIdeal
-- ==== Proof.Ideal.Value.lean ====
/- The body run with what its buffers hold: the inputs at their contents, each array it fills known to be right on the part
   filled so far. A store of the right values adds the rectangle it writes. -/
module

public import proofs.«01_k».proof.Proof.Ideal.Targets
public import proofs.«01_k».proof.Proof.Owned
public import proofs.«01_k».proof.Proof.Gen.KernelIdeal.Frame

@[expose] public section

noncomputable section

namespace Cert.KernelIdeal.Value

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local instance] Cert.KernelIdeal.Gen.facts

local notation "𝕄" => MT nD τ sig Unit (Elt F) ℕ (UR sig nD τ) ℕ

/-- Memref m held whole, agreeing with W where S says so. -/
def upto (c : Dev nD) {sp : Space} {s : Shape} {e : EltTy} (m : Memref sig .tc sp s e) (W : s.Idx → Elt F e) (S : s.Idx → Prop) : sProp 𝕄 :=
  iprop(∃ X, ⌜∀ j, S j → X j = W j⌝ ∗ owns (c : Thread nD τ) m fullShare X)

/-- Program p runs to its end from R and gives R'. -/
def Runs (c : Dev nD) (R R' : sProp 𝕄) (p : Prog (TpuEff nD τ sig (Elt F) Λ₀ .tc) PUnit) : Prop :=
  ∀ K : PUnit → sProp 𝕄, iprop(R ∗ (R' -∗ K ⟨⟩)) ⊢ wp frame (wpE (defs₀ (F := F)) Variants.none c none) Set.univ p K

/-- Memref m is among what R holds, at X. -/
def At (c : Dev nD) (R : sProp 𝕄) {sp : Space} {s : Shape} {e : EltTy} (m : Memref sig .tc sp s e) (X : s.Idx → Elt F e) : Prop :=
  R ⊢ iprop(owns (c : Thread nD τ) m fullShare X ∗ (owns (c : Thread nD τ) m fullShare X -∗ R))

/-- Memref m is among what R holds, right where R's argument says so. -/
def Filled (c : Dev nD) {sp : Space} {s : Shape} {e : EltTy} (R : (s.Idx → Prop) → sProp 𝕄) (m : Memref sig .tc sp s e) (W : s.Idx → Elt F e) : Prop :=
  ∀ S S', R S ⊢ iprop(upto (F := F) c m W S ∗ (upto (F := F) c m W S' -∗ R S'))

variable {c : Dev nD} {R R' R'' : sProp (MT nD τ sig Unit (Elt F) ℕ (UR sig nD τ) ℕ)}

theorem Runs.ret : Runs c R R (pure ⟨⟩) := fun K => by
  iintro ⟨H, Hk⟩
  iapply (le_wp_ret _ _)
  iapply Hk
  iexact H

theorem Runs.bind {p q : Prog (TpuEff nD τ sig (Elt F) Λ₀ .tc) PUnit} (hp : Runs c R R' p) (hq : Runs c R' R'' q) : Runs c R R'' (p >>= fun _ => q) := fun K => by
  rw [wp_bind]
  refine BIBase.Entails.trans ?_ (hp _)
  iintro ⟨H, Hk⟩
  isplitl [H]; · iexact H
  iintro H
  iapply (hq K)
  isplitl [H]; · iexact H
  iexact Hk

theorem Runs.mono {R₀ : sProp (MT nD τ sig Unit (Elt F) ℕ (UR sig nD τ) ℕ)} {p : Prog (TpuEff nD τ sig (Elt F) Λ₀ .tc) PUnit} (h : R₀ ⊢ R) (hp : Runs c R R' p)
    (h' : R' ⊢ R'') : Runs c R₀ R'' p := fun K => by
  refine BIBase.Entails.trans ?_ (hp K)
  iintro ⟨H, Hk⟩
  isplitl [H]; · iapply h; iexact H
  iintro H
  iapply Hk
  iapply h'
  iexact H

theorem Runs.load {cs : CoreSpace} {s : Shape} {e : EltTy} {m : Memref sig .tc cs s e} {r : Rect s} {hl : m.view.LoadsAt r.toLoadRect}
    {k : (r.toLoadRect.shape.Idx → Elt F e) → Prog (TpuEff nD τ sig (Elt F) Λ₀ .tc) PUnit} {X : s.Idx → Elt F e} (hm : At c R m X)
    (hk : Runs c R R' (k (View.ld X r))) : Runs c R R' (.op (.load m r.toLoadRect hl) k) := fun K => by
  iintro ⟨H, Hk⟩
  ihave H2 := (show R ⊢ iprop(owns (c : Thread nD τ) m fullShare X ∗ (owns (c : Thread nD τ) m fullShare X -∗ R)) from hm) $$ H
  icases H2 with ⟨HX, Hr⟩
  iapply (Owned.wp_load Variants.none (c : Thread nD τ) none Set.univ (hl := hl) (k := k) (X := X)) $$ HX
  iintro HX
  iapply (hk K)
  isplitl [HX Hr]
  · iapply Hr; iexact HX
  iexact Hk

section Fill

variable {cs : CoreSpace} {s : Shape} {e : EltTy} {m : Memref sig .tc cs s e} {r : Rect s} {W : s.Idx → Elt F e}
  {T : (s.Idx → Prop) → sProp (MT nD τ sig Unit (Elt F) ℕ (UR sig nD τ) ℕ)} {S S' : s.Idx → Prop}

/-- A load of an array being filled, of which nothing is used. -/
theorem Runs.peek {hl : m.view.LoadsAt r.toLoadRect} {k : (r.toLoadRect.shape.Idx → Elt F e) → Prog (TpuEff nD τ sig (Elt F) Λ₀ .tc) PUnit}
    (hm : Filled c T m W) (hk : ∀ x, Runs c (T S) R' (k x)) : Runs c (T S) R' (.op (.load m r.toLoadRect hl) k) := fun K => by
  iintro ⟨H, Hk⟩
  ihave H2 := (show T S ⊢ iprop(upto (F := F) c m W S ∗ (upto (F := F) c m W S -∗ T S)) from hm S S) $$ H
  icases H2 with ⟨HX, Hr⟩
  unfold upto
  icases HX with ⟨%X, %hX, HX⟩
  iapply (Owned.wp_load Variants.none (c : Thread nD τ) none Set.univ (hl := hl) (k := k) (X := X)) $$ HX
  iintro HX
  iapply (hk _ K)
  isplitl [HX Hr]
  · iapply Hr; iexists X
    isplitr
    · ipureintro; exact hX
    · iexact HX
  iexact Hk

/-- A store of the right values. -/
theorem Runs.store {w : r.shape.Idx → Elt F e} {hx : (m.access r).Stores Finset.univ} {hu : Finset.univ = Finset.univ ∨ ∀ a, r.stride a = 1}
    {k : PUnit → Prog (TpuEff nD τ sig (Elt F) Λ₀ .tc) PUnit} (hm : Filled c T m W) (hw : ∀ x, w x = W (r.emb x))
    (hS : ∀ j, S' j → S j ∨ j ∈ r.set) (hk : Runs c (T S') R' (k ⟨⟩)) :
    Runs c (T S) R' (.op (.store m r w Finset.univ hx hu) k) := fun K => by
  iintro ⟨H, Hk⟩
  ihave H2 := (show T S ⊢ iprop(upto (F := F) c m W S ∗ (upto (F := F) c m W S' -∗ T S')) from hm S S') $$ H
  icases H2 with ⟨HX, Hr⟩
  unfold upto
  icases HX with ⟨%X, %hX, HX⟩
  iapply (Owned.wp_store Variants.none (c : Thread nD τ) none Set.univ (w := w) (hx := hx) (hm := hu) (k := k) (X := X)) $$ HX
  iintro HX
  iapply (hk K)
  isplitl [HX Hr]
  · iapply Hr; iexists (r.overlay X w)
    isplitr
    · ipureintro
      intro j hj
      by_cases hr : j ∈ r.set
      · obtain ⟨x, hx'⟩ := r.exists_idx_of_mem hr
        rw [← hx']
        exact (Rect.overlay_emb r X w x).trans (hw x)
      · rw [Rect.overlay_of_not_mem r X w hr]
        exact hX j ((hS j hj).resolve_right hr)
    · iexact HX
  iexact Hk

/-- Less may be said of what is filled. -/
theorem Filled.weaken (hm : Filled c T m W) (hS : ∀ j, S' j → S j) : T S ⊢ T S' := by
  iintro H
  ihave H2 := (show T S ⊢ iprop(upto (F := F) c m W S ∗ (upto (F := F) c m W S' -∗ T S')) from hm S S') $$ H
  icases H2 with ⟨HX, Hr⟩
  iapply Hr
  unfold upto
  icases HX with ⟨%X, %hX, HX⟩
  iexists X
  isplitr
  · ipureintro; exact fun j hj => hX j (hS j hj)
  · iexact HX

end Fill

/-- An index of two axes is in a unit rectangle when each coordinate is. -/
theorem mem_unit2 {n0 n1 o0 o1 : Nat} {size : Fin 2 → Nat} {h : ∀ a, (![o0, o1] : Fin 2 → Nat) a + size a ≤ (⟨2, ![n0, n1]⟩ : Shape).size a}
    {j : (⟨2, ![n0, n1]⟩ : Shape).Idx} (h0 : o0 ≤ (j 0).val ∧ (j 0).val < o0 + size 0) (h1 : o1 ≤ (j 1).val ∧ (j 1).val < o1 + size 1) :
    j ∈ (Rect.unit (s := ⟨2, ![n0, n1]⟩) ![o0, o1] size h).set := by
  refine (LoadRect.mem_set _).mpr fun a => ?_
  match a with
  | ⟨0, _⟩ => exact ⟨(j 0).val - o0, by show _ < size 0; omega, by show (j 0).val = o0 + 1 * _; omega⟩
  | ⟨1, _⟩ => exact ⟨(j 1).val - o1, by show _ < size 1; omega, by show (j 1).val = o1 + 1 * _; omega⟩

section Weights

variable {X3 : Vec F S2x768x256 .i8} {X4 : Vec F S96x2x256 .bf16} {X5 : Vec F S2x96x256 .i8} {X6 X7 : Vec F S2x768x128 .i32}
  {arg3 : Memref sig .tc .vmem S2x768x256 .i8}
  {arg4 : Memref sig .tc .vmem S96x2x256 .bf16} {arg5 : Memref sig .tc .vmem S2x96x256 .i8}
  {o : Memref sig .tc .vmem S2x768x128 .i32} {arg10 : Memref sig .tc .vmem S1536x512 .bf16} {harg10 : arg10.IsWhole} {p : Fin 2}
  {T : (S1536x512.Idx → Prop) → sProp (MT nD τ sig Unit (Elt F) ℕ (UR sig nD τ) ℕ)}
  (h3 : ∀ S, At c (T S) arg3 X3) (h4 : ∀ S, At c (T S) arg4 X4) (h5 : ∀ S, At c (T S) arg5 X5) (ho : ∀ S, At c (T S) o (outs X6 X7 p))
  (h10 : Filled c T arg10 (weight X3 X4 X5 X6 X7))

include ho h10 in
theorem runs_half (k : Fin 2) (g : Fin 96) (d : FVec F S16x256 .bf16) (hd : half k d (outliersOf (outs X6 X7 p) k g) = groupAt X3 X4 X5 (outs X6 X7 p) p k g)
    (S : S1536x512.Idx → Prop) :
    Runs c (T S) (T fun j => S j ∨ (j 0).val / 16 = g.1 ∧ (j 1).val / 128 = 2 * p.1 + k.1) (halfProg o arg10 harg10 p k g d) := by
  refine .load (ho S) <| .peek h10 fun _ => .store h10 (fun x => ?_) (fun j hj => hj.imp id fun hj => ?_) .ret
  · exact (congrFun hd x).trans (weight_eq X3 X4 X5 X6 X7 _ p k g x (by show _ + 1 * _ = _; rw [Nat.one_mul]; rfl) (by show _ + 1 * _ = _; rw [Nat.one_mul]; rfl)).symm
  · obtain ⟨e0, e1⟩ := hj
    refine mem_unit2 ?_ ?_
    · show _ ∧ _ < _ + 16; omega
    · show _ ∧ _ < _ + 128; omega

include h4 ho h10 in
theorem runs_group (t : Fin 24) (q : Fin 4) (S : S1536x512.Idx → Prop) :
    Runs c (T S) (T fun j => S j ∨ (j 0).val / 16 = 4 * t.1 + q.1 ∧ (j 1).val / 256 = p.1)
      (groupProg arg4 o arg10 harg10 p t q (codesOf X3 p t) (zerosOf X5 p t)) := by
  refine .load (h4 S) <| .mono .rfl (.bind (runs_half ho h10 0 _ _ (groupAt_eq X3 X4 X5 _ p 0 t q) S) (runs_half ho h10 1 _ _ (groupAt_eq X3 X4 X5 _ p 1 t q) _)) (h10.weaken fun j hj => ?_)
  rcases hj with hj | ⟨e0, e1⟩
  · exact .inl (.inl hj)
  · by_cases h : (j 1).val / 128 = 2 * p.1
    · exact .inl (.inr ⟨e0, by simpa using h⟩)
    · exact .inr ⟨e0, by show _ = _ + 1; omega⟩

include h3 h4 h5 ho h10 in
theorem runs_block (t : Fin 24) (S : S1536x512.Idx → Prop) :
    Runs c (T S) (T fun j => S j ∨ (j 0).val / 64 = t.1 ∧ (j 1).val / 256 = p.1) (blockProg arg3 arg4 arg5 o arg10 harg10 p t) := by
  refine .load (h3 S) <| .load (h5 S) <| .mono .rfl (.bind (runs_group h4 ho h10 t 0 S) <| .bind (runs_group h4 ho h10 t 1 _) <|
    .bind (runs_group h4 ho h10 t 2 _) (runs_group h4 ho h10 t 3 _)) (h10.weaken fun j hj => ?_)
  rcases hj with hj | ⟨e0, e1⟩
  · exact .inl (.inl (.inl (.inl hj)))
  · have : (j 0).val / 16 = 4 * t.1 + 0 ∨ (j 0).val / 16 = 4 * t.1 + 1 ∨ (j 0).val / 16 = 4 * t.1 + 2 ∨ (j 0).val / 16 = 4 * t.1 + 3 := by omega
    rcases this with h | h | h | h
    · exact .inl (.inl (.inl (.inr ⟨h, e1⟩)))
    · exact .inl (.inl (.inr ⟨h, e1⟩))
    · exact .inl (.inr ⟨h, e1⟩)
    · exact .inr ⟨h, e1⟩

include h3 h4 h5 ho h10 in
theorem runs_blocks : ∀ (n t : Nat) (S : S1536x512.Idx → Prop),
    Runs c (T S) (T fun j => S j ∨ t ≤ (j 0).val / 64 ∧ (j 0).val / 64 < t + n ∧ (j 1).val / 256 = p.1) (blocksProg arg3 arg4 arg5 o arg10 harg10 p n t)
  | 0, t, S => .mono .rfl .ret (h10.weaken fun j hj => hj.elim id fun h => by omega)
  | n + 1, t, S => by
    unfold blocksProg
    by_cases h : t < 24
    · rw [dif_pos h]
      refine .mono .rfl (.bind (runs_block h3 h4 h5 ho h10 ⟨t, h⟩ S) (runs_blocks n (t + 1) _)) (h10.weaken fun j hj => ?_)
      rcases hj with hj | ⟨e0, e1, e2⟩
      · exact .inl (.inl hj)
      · by_cases he : (j 0).val / 64 = t
        · exact .inl (.inr ⟨he, e2⟩)
        · exact .inr ⟨by omega, by omega, e2⟩
    · rw [dif_neg h]
      refine .mono .rfl (.bind .ret (runs_blocks n (t + 1) S)) (h10.weaken fun j hj => ?_)
      have := idx2_lt0 j
      rcases hj with hj | ⟨e0, e1, e2⟩
      · exact .inl hj
      · omega

end Weights

section Dequant

variable {X3 : Vec F S2x768x256 .i8} {X4 : Vec F S96x2x256 .bf16} {X5 : Vec F S2x96x256 .i8} {X6 X7 : Vec F S2x768x128 .i32}
  {arg3 : Memref sig .tc .vmem S2x768x256 .i8}
  {arg4 : Memref sig .tc .vmem S96x2x256 .bf16} {arg5 : Memref sig .tc .vmem S2x96x256 .i8}
  {arg6 arg7 : Memref sig .tc .vmem S2x768x128 .i32} {arg10 : Memref sig .tc .vmem S1536x512 .bf16} {harg10 : arg10.IsWhole}
  {T : (S1536x512.Idx → Prop) → sProp (MT nD τ sig Unit (Elt F) ℕ (UR sig nD τ) ℕ)}
  (h3 : ∀ S, At c (T S) arg3 X3) (h4 : ∀ S, At c (T S) arg4 X4) (h5 : ∀ S, At c (T S) arg5 X5) (h6 : ∀ S, At c (T S) arg6 X6) (h7 : ∀ S, At c (T S) arg7 X7)
  (h10 : Filled c T arg10 (weight X3 X4 X5 X6 X7))

include h3 h4 h5 h6 h7 h10 in
theorem runs_dequant (S : S1536x512.Idx → Prop) : Runs c (T S) (T fun _ => True) (dequantProg arg3 arg4 arg5 arg6 arg7 arg10 harg10) := by
  have h6' : ∀ S, At c (T S) arg6 (outs X6 X7 0) := h6
  have h7' : ∀ S, At c (T S) arg7 (outs X6 X7 1) := h7
  refine .mono .rfl (.bind (runs_blocks h3 h4 h5 h6' h10 12 0 S) <| .bind (runs_blocks h3 h4 h5 h6' h10 12 12 _) <|
    .bind (runs_blocks h3 h4 h5 h7' h10 12 0 _) (runs_blocks h3 h4 h5 h7' h10 12 12 _)) (h10.weaken fun j _ => ?_)
  have h0 := idx2_lt0 j
  have h1 := idx2_lt1 j
  by_cases hp : (j 1).val / 256 = 0 <;> by_cases ht : (j 0).val / 64 < 12
  · exact .inl (.inl (.inl (.inr ⟨by omega, by omega, hp⟩)))
  · exact .inl (.inl (.inr ⟨by omega, by omega, hp⟩))
  · exact .inl (.inr ⟨by omega, by omega, by show _ = 1; omega⟩)
  · exact .inr ⟨by omega, by omega, by show _ = 1; omega⟩

end Dequant

end Cert.KernelIdeal.Value
-- ==== Proof.Ideal.ValueRows.lean ====
/- The row blocks of a grid step run: the step's codes and its part of the scales are right at the end. -/
module

public import proofs.«01_k».proof.Proof.Ideal.Value

@[expose] public section

noncomputable section

namespace Cert.KernelIdeal.Value

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local instance] Cert.KernelIdeal.Gen.facts

variable {c : Dev nD} (i : grid0.Coords) {X2 : Vec F S8192x1536 .bf16} {W : Vec F S1536x512 .bf16}
  {arg2 : Memref sig .tc .vmem S8192x1536 .bf16} {arg8 : Memref sig .tc .vmem S1024x256 .fp8e4m3} {harg8 : arg8.IsWhole}
  {arg9 : Memref sig .tc .vmem S2x2x4x8x128 .f32} {arg10 : Memref sig .tc .vmem S1536x512 .bf16}
  {T : (S1024x256.Idx → Prop) → (S2x2x4x8x128.Idx → Prop) → sProp (MT nD τ sig Unit (Elt F) ℕ (UR sig nD τ) ℕ)}
  (h2 : ∀ S U, At c (T S U) arg2 X2) (h10 : ∀ S U, At c (T S U) arg10 W)
  (h8 : ∀ U, Filled c (fun S => T S U) arg8 (codesAt X2 W (i 1))) (h9 : ∀ S, Filled c (fun U => T S U) arg9 (scalesAt X2 W))
  (S : S1024x256.Idx → Prop) (U : S2x2x4x8x128.Idx → Prop)

theorem mem_scaleRect (m : Fin 4) (k r : Fin 2) (j : S2x2x4x8x128.Idx) (hj : Part (i 1) m k r j) :
    j ∈ (Rect.unit (s := S2x2x4x8x128) (scaleOff i m k r) S1x1x1x1x128.size (scaleOff_inb i m k r)).set := by
  have h2 : (j 2).val < 4 := (j 2).isLt
  have h3 : (j 3).val < 8 := (j 3).isLt
  obtain ⟨hc, hk, hm, hr⟩ := hj
  refine (LoadRect.mem_set _).mpr fun a => ?_
  have e := congrFun (scaleOff_eq i m k r) a
  have hoff : (Rect.unit (s := S2x2x4x8x128) (scaleOff i m k r) S1x1x1x1x128.size (scaleOff_inb i m k r)).off a
      = (![k.1, (i 1).val / 4, 2 * (m.1 % 2) + r.1, (2 * (i 1).val + m.1 / 2) % 8, 0] : Fin 5 → Nat) a := e
  rw [hoff]
  match a with
  | ⟨0, _⟩ => exact ⟨0, Nat.one_pos, by show (j 0).val = k.1 + 1 * 0; omega⟩
  | ⟨1, _⟩ => exact ⟨0, Nat.one_pos, by show (j 1).val = (i 1).val / 4 + 1 * 0; omega⟩
  | ⟨2, _⟩ => exact ⟨0, Nat.one_pos, by show (j 2).val = 2 * (m.1 % 2) + r.1 + 1 * 0; omega⟩
  | ⟨3, _⟩ => exact ⟨0, Nat.one_pos, by show (j 3).val = (2 * (i 1).val + m.1 / 2) % 8 + 1 * 0; omega⟩
  | ⟨4, _⟩ => exact ⟨(j 4).val, (j 4).isLt, by show (j 4).val = 0 + 1 * _; omega⟩

theorem part_emb (m : Fin 4) (k r : Fin 2) (x : S1x1x1x1x128.Idx) :
    Part (i 1) m k r ((Rect.unit (s := S2x2x4x8x128) (scaleOff i m k r) S1x1x1x1x128.size (scaleOff_inb i m k r)).emb x)
      ∧ ((Rect.unit (s := S2x2x4x8x128) (scaleOff i m k r) S1x1x1x1x128.size (scaleOff_inb i m k r)).emb x 4).val = (x 4).val := by
  have hi : (i 1).val < 8 := (i 1).isLt
  have e : ∀ a, ((Rect.unit (s := S2x2x4x8x128) (scaleOff i m k r) S1x1x1x1x128.size (scaleOff_inb i m k r)).emb x a).val
      = (![k.1, (i 1).val / 4, 2 * (m.1 % 2) + r.1, (2 * (i 1).val + m.1 / 2) % 8, 0] : Fin 5 → Nat) a + 1 * (x a).val := fun a =>
    congrArg (· + 1 * (x a).val) (congrFun (scaleOff_eq i m k r) a)
  have x0 : (x 0).val < 1 := (x 0).isLt
  have x1 : (x 1).val < 1 := (x 1).isLt
  have x2 : (x 2).val < 1 := (x 2).isLt
  have x3 : (x 3).val < 1 := (x 3).isLt
  have e0 : _ = k.1 + 1 * (x 0).val := e 0
  have e1 : _ = (i 1).val / 4 + 1 * (x 1).val := e 1
  have e2 : _ = 2 * (m.1 % 2) + r.1 + 1 * (x 2).val := e 2
  have e3 : _ = (2 * (i 1).val + m.1 / 2) % 8 + 1 * (x 3).val := e 3
  have e4 : _ = 0 + 1 * (x 4).val := e 4
  unfold Part
  rw [e0, e1, e2, e3, e4]
  refine ⟨⟨?_, ?_, ?_, ?_⟩, ?_⟩ <;> omega

include h9 in
theorem runs_scale (m : Fin 4) (k r : Fin 2) :
    Runs c (T S U) (T S fun j => U j ∨ Part (i 1) m k r j) (scaleProg i arg9 m k r (scales (hOf X2 W (i 1) m k))) :=
  .peek (T := fun U => T S U) (h9 S) fun _ => .store (T := fun U => T S U) (h9 S)
    (fun x => (scalesAt_eq X2 W (i 1) m k r _ x (part_emb i m k r x).1 (part_emb i m k r x).2).symm)
    (fun j hj => hj.imp id (mem_scaleRect i m k r j)) .ret

include h8 h9 in
theorem runs_cols (m : Fin 4) (k : Fin 2) :
    Runs c (T S U) (T (fun j => S j ∨ (j 0).val / 256 = m.1 ∧ (j 1).val / 128 = k.1) fun j => (U j ∨ Part (i 1) m k 0 j) ∨ Part (i 1) m k 1 j)
      (colsProg i arg8 harg8 arg9 m k (hOf X2 W (i 1) m k)) := by
  unfold colsProg
  simp only [Prog.bind_lift]
  refine .peek (T := fun S => T S U) (h8 U) fun _ => .store (T := fun S => T S U) (h8 U) (S' := fun j => S j ∨ (j 0).val / 256 = m.1 ∧ (j 1).val / 128 = k.1)
    (fun x => (codesAt_eq X2 W (i 1) _ m k x (by show _ + 1 * _ = _; rw [Nat.one_mul]; rfl) (by show _ + 1 * _ = _; rw [Nat.one_mul]; rfl)).symm)
    (fun j hj => hj.imp id fun hj => ?_) (.bind (runs_scale i h9 _ _ m k 0) (runs_scale i h9 _ _ m k 1))
  obtain ⟨e0, e1⟩ := hj
  refine mem_unit2 ?_ ?_
  · show _ ∧ _ < _ + 256; omega
  · show _ ∧ _ < _ + 128; omega

include h2 h8 h9 h10 in
theorem runs_rows (m : Fin 4) :
    Runs c (T S U) (T (fun j => (S j ∨ (j 0).val / 256 = m.1 ∧ (j 1).val / 128 = 0) ∨ (j 0).val / 256 = m.1 ∧ (j 1).val / 128 = 1)
        fun j => (((U j ∨ Part (i 1) m 0 0 j) ∨ Part (i 1) m 0 1 j) ∨ Part (i 1) m 1 0 j) ∨ Part (i 1) m 1 1 j)
      (rowsProg i arg2 arg8 harg8 arg9 arg10 m) := by
  unfold rowsProg
  simp only [Prog.bind_lift]
  have hW : (View.ld W (Rect.unit (s := S1536x512) ![0, 0] S1536x512.size inb_S1536x512_S1536x512_0_0) : Vec F S1536x512 .bf16) = W := by
    funext x
    refine congrArg W (funext fun a => Fin.ext ?_)
    show (![0, 0] : Fin 2 → Nat) a + 1 * (x a).val = (x a).val
    match a with
    | ⟨0, _⟩ => show 0 + 1 * _ = _; omega
    | ⟨1, _⟩ => show 0 + 1 * _ = _; omega
  refine .load (h2 S U) <| .load (h10 S U) ?_
  rw [rowsOf_eq X2 i m, hW]
  exact .bind (runs_cols i h8 h9 S U m 0) (runs_cols i h8 h9 _ _ m 1)

include h2 h8 h9 h10 in
/-- After the row blocks the step's codes are right, and so are the scales that it makes. -/
theorem runs_rest :
    Runs c (T S U) (T (fun _ => True) fun j => U j ∨ 4 * (j 1).val + (j 3).val / 2 = (i 1).val) (restProg i arg2 arg8 harg8 arg9 arg10) := by
  refine .mono .rfl (.bind (runs_rows i h2 h10 h8 h9 S U 0) <| .bind (runs_rows i h2 h10 h8 h9 _ _ 1) <| .bind (runs_rows i h2 h10 h8 h9 _ _ 2)
    (runs_rows i h2 h10 h8 h9 _ _ 3)) ((Filled.weaken (T := fun S => T S _) (h8 _) (S' := fun _ => True) fun j _ => ?_).trans
      (Filled.weaken (T := fun U => T _ U) (h9 _) fun j hj => ?_))
  · have h0 := idx2_lt0 j
    have h1 := idx2_lt1 j
    have hr : (j 0).val / 256 = 0 ∨ (j 0).val / 256 = 1 ∨ (j 0).val / 256 = 2 ∨ (j 0).val / 256 = 3 := by omega
    have hc : (j 1).val / 128 = 0 ∨ (j 1).val / 128 = 1 := by omega
    rcases hr with h | h | h | h <;> rcases hc with h' | h' <;> simp [h, h']
  · have h0 : (j 0).val < 2 := (j 0).isLt
    have h2 : (j 2).val < 4 := (j 2).isLt
    have h3 : (j 3).val < 8 := (j 3).isLt
    rcases hj with hj | hj
    · simp [hj]
    · have hm : 2 * ((j 3).val % 2) + (j 2).val / 2 = 0 ∨ 2 * ((j 3).val % 2) + (j 2).val / 2 = 1 ∨ 2 * ((j 3).val % 2) + (j 2).val / 2 = 2
          ∨ 2 * ((j 3).val % 2) + (j 2).val / 2 = 3 := by omega
      have hc : (j 0).val = 0 ∨ (j 0).val = 1 := by omega
      have hr : (j 2).val % 2 = 0 ∨ (j 2).val % 2 = 1 := by omega
      rcases hm with h | h | h | h <;> rcases hc with h' | h' <;> rcases hr with h'' | h'' <;> simp [Part, hj, h, h', h'']

end Cert.KernelIdeal.Value
-- ==== Proof.Ideal.ValueRun.lean ====
/- The kernel's whole run with what it computes: the codes' blocks at every grid step, the scales' block at the end of every
   column block, the scratch's weights in between. -/
module

public import proofs.«01_k».proof.Proof.Ideal.Blocks
public import proofs.«01_k».proof.Proof.Ideal.ValueRows
public import proofs.«01_k».proof.Proof.Ideal.BodyEq
public import Idealize.ShloMosaic.Lib.Pipeline.Frame
public import Idealize.ShloMosaic.Lib.Pipeline.DatRel

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

attribute [local instance] Cert.KernelIdeal.Gen.facts

local notation "𝕄" => MT nD τ sig Unit (Elt F) ℕ (UR sig nD τ) ℕ

variable (m : (ℓ : Loc nD τ sig) → Buf (Elt F) ℓ) (ρ : Dev nD → PrngReg)

/-- The scratch, whole. -/
abbrev scr : Memref sig .tc .vmem S1536x512 .bf16 := Memref.whole cc0_scratch0

theorem coords_val : ∀ t : Fin cfg0.N, (grid0.coords t 1).val = t.val % 8 := (by decide +kernel : ∀ t : Fin grid0.N, (grid0.coords t 1).val = t.val % 8)
theorem first_iff : ∀ t : Fin cfg0.N, first (grid0.coords t) ↔ t.val % 8 = 0 := (by decide +kernel : ∀ t : Fin grid0.N, first (grid0.coords t) ↔ t.val % 8 = 0)

/-- The codes that step t makes. -/
def codesOfStep (c : Dev nD) (t : Fin cfg0.N) : Vec F S1024x256 .fp8e4m3 := codesAt (V m c main_v0) (weightOf m c (t.val / 8)) (grid0.coords t 1)

/-- The scales of column block n. -/
def scalesOfBlock (c : Dev nD) (n : Nat) : Vec F S2x2x4x8x128 .f32 := scalesAt (V m c main_v0) (weightOf m c n)

/-- The arrays written, of which the body's results are stated. -/
def outs? : Fin 8 → Bool := fun w => match w with | 6 => true | 7 => true | _ => false

/-- What the body leaves in them at step t. -/
def Right (c : Dev nD) : (w : Fin cfg0.W) → Fin cfg0.N → ((cfg0.win w).block.Idx → Elt F (cfg0.win w).elt) → Prop
  | ⟨6, _⟩, t, X => X = codesOfStep m c t
  | ⟨7, _⟩, t, X => ∀ j : S2x2x4x8x128.Idx, 4 * (j 1).val + (j 3).val / 2 ≤ t.val % 8 → X j = scalesOfBlock m c (t.val / 8) j
  | _, _, _ => True

/-- The scratch between the steps: the weights of the column block, but before its first step. -/
def between (c : Dev nD) (u : Nat) : sProp 𝕄 :=
  iprop(∃ X, ⌜u % 8 ≠ 0 → X = weightOf m c (u / 8)⌝ ∗ owns (c : Thread nD τ) scr fullShare X)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ u := iprop(between m c u.val ∗ ∃ r, prngReg c r)
  q w := Pipeline.shareOf spec0 w
  owed _ := 0

theorem A_eq (c : Dev nD) (w : Fin cfg0.W) : (dats m 0 c).A w = V m c (Pipeline.arrRef spec0 w) := by dsimp only [dats]

/-- What the scales' buffer holds when the body runs: the scales of the steps before, of this column block. -/
theorem finds_scales (c : Dev nD) (t : Fin cfg0.N) (X : S2x2x4x8x128.Idx → Elt F .f32) (h : ((dats m 0 c).toRRel outs? (Right m c)).Finds 7 t X)
    (j : S2x2x4x8x128.Idx) (hj : 4 * (j 1).val + (j 3).val / 2 < t.val % 8) : X j = scalesOfBlock m c (t.val / 8) j := by
  have ht := t.isLt
  have hfetch : ¬ (cfg0.win 7).fetch t = true := by rw [(cfg0.win 7).fetch_out rfl]; exact Bool.false_ne_true
  unfold Pipeline.RDat.Finds at h
  rw [if_neg hfetch, if_neg (by omega)] at h
  have hf : ∀ hh, ¬ (cfg0.win 7).flush ⟨t.val - 1, hh⟩ = true := fun hh hf => by
    have := (flush0_7 _).mp hf
    simp only at this
    omega
  rw [if_neg (hf _)] at h
  obtain ⟨Y, -, hY⟩ := h
  rw [(dats m 0 c).toRRel_after_of_eq_true (w := 7) rfl] at hY
  have e := hY j (show _ ≤ (t.val - 1) % 8 by omega)
  rwa [show (t.val - 1) / 8 = t.val / 8 by omega] at e

/-- What the body holds at step t: the inputs' blocks, the codes right where S says, the scales where U says, the scratch where Z says. -/
def Holds (c : Dev nD) (t : Fin cfg0.N) (S : S1024x256.Idx → Prop) (U : S2x2x4x8x128.Idx → Prop) (Z : S1536x512.Idx → Prop) : sProp 𝕄 :=
  iprop(owns (c : Thread nD τ) (win0_0.stage (cfg0.slots t 0)) fullShare (V m c main_v0)
    ∗ owns (c : Thread nD τ) (win0_1.stage (cfg0.slots t 1)) fullShare (packedBlk (V m c main_v1) (t.val / 8))
    ∗ owns (c : Thread nD τ) (win0_2.stage (cfg0.slots t 2)) fullShare (scaleBlk (V m c main_arg2) (t.val / 8))
    ∗ owns (c : Thread nD τ) (win0_3.stage (cfg0.slots t 3)) fullShare (zeroBlk (V m c main_v2) (t.val / 8))
    ∗ owns (c : Thread nD τ) (win0_4.stage (cfg0.slots t 4)) fullShare (outBlk (V m c main_arg4) (t.val / 8))
    ∗ owns (c : Thread nD τ) (win0_5.stage (cfg0.slots t 5)) fullShare (outBlk (V m c main_arg4) (t.val / 8 + 35))
    ∗ upto (F := F) c (win0_6.stage (cfg0.slots t 6)) (codesOfStep m c t) S
    ∗ upto (F := F) c (win0_7.stage (cfg0.slots t 7)) (scalesOfBlock m c (t.val / 8)) U
    ∗ upto (F := F) c scr (weightOf m c (t.val / 8)) Z)

variable (c : Dev nD) (t : Fin cfg0.N)

/-- The row blocks at a step, from the weights in the scratch. -/
theorem runs_steps (U : S2x2x4x8x128.Idx → Prop) :
    Runs (F := F) c (Holds m c t (fun _ => False) U fun _ => True)
      (Holds m c t (fun _ => True) (fun j => U j ∨ 4 * (j 1).val + (j 3).val / 2 = (grid0.coords t 1).val) fun _ => True)
      (restProg (grid0.coords t) (win0_0.stage (cfg0.slots t 0)) (win0_6.stage (cfg0.slots t 6)) (hstage0_6 ((cfg0.slots t 6).cast nbuf0_6))
        (win0_7.stage (cfg0.slots t 7)) scr) := by
  refine runs_rest (T := fun S U => Holds m c t S U fun _ => True) (grid0.coords t) (X2 := V m c main_v0) (W := weightOf m c (t.val / 8)) ?_ ?_ ?_ ?_ _ U
  · intro S U
    unfold At Holds
    iintro ⟨H0, H1, H2, H3, H4, H5, H6, H7, H8⟩
    isplitl [H0]; · iexact H0
    iintro H0; iframe
  · intro S U
    unfold At Holds
    iintro ⟨H0, H1, H2, H3, H4, H5, H6, H7, H8⟩
    unfold upto
    icases H8 with ⟨%X, %hX, H8⟩
    obtain rfl : X = weightOf m c (t.val / 8) := funext fun j => hX j trivial
    isplitl [H8]; · iexact H8
    iintro H8; iframe
    iexists _
    isplitr
    · ipureintro; exact hX
    · iexact H8
  · intro U S S'
    show Holds m c t S U _ ⊢ iprop(upto (F := F) c (win0_6.stage (cfg0.slots t 6)) (codesOfStep m c t) S
      ∗ (upto (F := F) c (win0_6.stage (cfg0.slots t 6)) (codesOfStep m c t) S' -∗ Holds m c t S' U _))
    unfold Holds
    iintro ⟨H0, H1, H2, H3, H4, H5, H6, H7, H8⟩
    isplitl [H6]; · iexact H6
    iintro H6; iframe
  · intro S U U'
    show Holds m c t S U _ ⊢ iprop(upto (F := F) c (win0_7.stage (cfg0.slots t 7)) (scalesOfBlock m c (t.val / 8)) U
      ∗ (upto (F := F) c (win0_7.stage (cfg0.slots t 7)) (scalesOfBlock m c (t.val / 8)) U' -∗ Holds m c t S U' _))
    unfold Holds
    iintro ⟨H0, H1, H2, H3, H4, H5, H6, H7, H8⟩
    isplitl [H7]; · iexact H7
    iintro H7; iframe

/-- The dequantisation at a step. -/
theorem runs_weights (S : S1024x256.Idx → Prop) (U : S2x2x4x8x128.Idx → Prop) :
    Runs (F := F) c (Holds m c t S U fun _ => False) (Holds m c t S U fun _ => True)
      (dequantProg (win0_1.stage (cfg0.slots t 1)) (win0_2.stage (cfg0.slots t 2)) (win0_3.stage (cfg0.slots t 3)) (win0_4.stage (cfg0.slots t 4))
        (win0_5.stage (cfg0.slots t 5)) scr (Memref.isWhole_whole _)) := by
  refine runs_dequant (T := fun Z => Holds m c t S U Z) (X3 := packedBlk (V m c main_v1) (t.val / 8)) (X4 := scaleBlk (V m c main_arg2) (t.val / 8))
    (X5 := zeroBlk (V m c main_v2) (t.val / 8)) (X6 := outBlk (V m c main_arg4) (t.val / 8)) (X7 := outBlk (V m c main_arg4) (t.val / 8 + 35)) ?_ ?_ ?_ ?_ ?_ ?_ _
  · intro Z
    unfold At Holds
    iintro ⟨H0, H1, H2, H3, H4, H5, H6, H7, H8⟩
    isplitl [H1]; · iexact H1
    iintro H1; iframe
  · intro Z
    unfold At Holds
    iintro ⟨H0, H1, H2, H3, H4, H5, H6, H7, H8⟩
    isplitl [H2]; · iexact H2
    iintro H2; iframe
  · intro Z
    unfold At Holds
    iintro ⟨H0, H1, H2, H3, H4, H5, H6, H7, H8⟩
    isplitl [H3]; · iexact H3
    iintro H3; iframe
  · intro Z
    unfold At Holds
    iintro ⟨H0, H1, H2, H3, H4, H5, H6, H7, H8⟩
    isplitl [H4]; · iexact H4
    iintro H4; iframe
  · intro Z
    unfold At Holds
    iintro ⟨H0, H1, H2, H3, H4, H5, H6, H7, H8⟩
    isplitl [H5]; · iexact H5
    iintro H5; iframe
  · intro Z Z'
    show Holds m c t S U Z ⊢ iprop(upto (F := F) c scr (weightOf m c (t.val / 8)) Z ∗ (upto (F := F) c scr (weightOf m c (t.val / 8)) Z' -∗ Holds m c t S U Z'))
    unfold Holds
    iintro ⟨H0, H1, H2, H3, H4, H5, H6, H7, H8⟩
    isplitl [H8]; · iexact H8
    iintro H8; iframe

/-- The body at a step, where the scratch holds the weights but at the first step of a column block. -/
theorem runs_body (U : S2x2x4x8x128.Idx → Prop) :
    Runs (F := F) c (Holds m c t (fun _ => False) U fun _ => t.val % 8 ≠ 0)
      (Holds m c t (fun _ => True) (fun j => U j ∨ 4 * (j 1).val + (j 3).val / 2 = (grid0.coords t 1).val) fun _ => True) (bodyAt0 t) := by
  unfold bodyAt0
  by_cases hf : first (grid0.coords t)
  · rw [body_first hf]
    have e : (fun _ : S1536x512.Idx => t.val % 8 ≠ 0) = fun _ => False := funext fun _ => propext ⟨fun h => h ((first_iff t).mp hf), False.elim⟩
    rw [e]
    exact .bind (runs_weights m c t _ _) (runs_steps m c t U)
  · rw [body_later hf]
    have e : (fun _ : S1536x512.Idx => t.val % 8 ≠ 0) = fun _ => True := funext fun _ => propext ⟨fun _ => trivial, fun _ h => hf ((first_iff t).mpr h)⟩
    rw [e]
    exact runs_steps m c t U

/-- What the body is called with. -/
def before (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ Y, ⌜((dats m 0 c).toRRel outs? (Right m c)).Finds 6 t Y⌝ ∗ owns (c : Thread nD τ) (win0_6.stage (cfg0.slots t 6)) fullShare Y)
    ∗ (∃ Y, ⌜((dats m 0 c).toRRel outs? (Right m c)).Finds 7 t Y⌝ ∗ owns (c : Thread nD τ) (win0_7.stage (cfg0.slots t 7)) fullShare Y))

/-- What it returns. -/
def after (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ X, ⌜Right m c 6 t X⌝ ∗ owns (c : Thread nD τ) (win0_6.stage (cfg0.slots t 6)) fullShare X)
    ∗ (∃ X, ⌜Right m c 7 t X⌝ ∗ owns (c : Thread nD τ) (win0_7.stage (cfg0.slots t 7)) fullShare X))

theorem sound_body : before m c t ⊢ wp frame (wpE (defs₀ (F := F)) Variants.none c none) Set.univ (bodyAt0 t) (fun _ => after m c t) := by
  have hrun := runs_body m c t (fun j => 4 * (j 1).val + (j 3).val / 2 < t.val % 8)
  unfold before after
  rw [show (dats m 0 c).owesAt () t.succ = (dats m 0 c).owesAt () t.castSucc from rfl,
    show (dats m 0 c).Φ t.castSucc = iprop(between m c t.val ∗ ∃ r, prngReg c r) from rfl,
    show (dats m 0 c).Φ t.succ = iprop(between m c (t.val + 1) ∗ ∃ r, prngReg c r) from rfl,
    show (dats m 0 c).after 0 t = _ from iblk_x m c t, show (dats m 0 c).after 1 t = _ from iblk_packed m c t,
    show (dats m 0 c).after 2 t = _ from iblk_scale m c t, show (dats m 0 c).after 3 t = _ from iblk_zero m c t,
    show (dats m 0 c).after 4 t = _ from iblk_gate m c t, show (dats m 0 c).after 5 t = _ from iblk_up m c t]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl),
    iblk_x, iblk_packed, iblk_scale, iblk_zero, iblk_gate, iblk_up]
  unfold between
  iintro ⟨⟨⟨%Z, %hZ, HS⟩, Hg⟩, HO, ⟨%d0, H0⟩, ⟨%d1, H1⟩, ⟨%d2, H2⟩, ⟨%d3, H3⟩, ⟨%d4, H4⟩, ⟨%d5, H5⟩, ⟨%Y6, %h6, H6⟩, ⟨%Y7, %h7, H7⟩⟩
  iapply (hrun _)
  isplitl [HS H0 H1 H2 H3 H4 H5 H6 H7]
  · unfold Holds upto
    iframe
    isplitl [H6]
    · iexists Y6
      isplitr
      · ipureintro; exact fun _ h => h.elim
      · iexact H6
    isplitl [H7]
    · iexists Y7
      isplitr
      · ipureintro; exact fun j hj => finds_scales m c t Y7 h7 j hj
      · iexact H7
    · iexists Z
      isplitr
      · ipureintro; exact fun j hj => congrFun (hZ hj) j
      · iexact HS
  unfold Holds upto
  iintro ⟨H0, H1, H2, H3, H4, H5, ⟨%X6, %h6, H6⟩, ⟨%X7, %h7, H7⟩, ⟨%Z', %hZ', HS⟩⟩
  iframe
  isplitl [HS]
  · iexists Z'
    isplitr
    · ipureintro
      intro h
      rw [show (t.val + 1) / 8 = t.val / 8 by omega]
      exact funext fun j => hZ' j trivial
    · iexact HS
  isplitl [H6]
  · iexists X6
    isplitr
    · ipureintro; exact funext fun j => h6 j trivial
    · iexact H6
  · iexists X7
    isplitr
    · ipureintro
      intro j hj
      refine h7 j ?_
      rw [coords_val]
      omega
    · iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ outs? (Right m c) := fun t => by
  rw [bigSep_W0, bigSep_W0, defs₀_row]
  exact triple_restated (sound_body m c t) rfl .rfl fun _ => .rfl

theorem scoped_eq (c : Dev nD) : (Pipeline.ΦA spec0 c : sProp 𝕄) = iprop((∃ X, owns (c : Thread nD τ) scr fullShare X) ∗ ∃ r, prngReg c r) := by
  have hsc : (iprop(∃ f : Buf (Elt F) ((c : Thread nD τ).loc cc0_scratch0), ((c : Thread nD τ).loc cc0_scratch0) ↦{fullShare} f) : sProp 𝕄)
      = iprop(∃ X, owns (c : Thread nD τ) scr fullShare X) := by
    simp only [scr, owns_whole]; rfl
  unfold Pipeline.ΦA
  rw [scopedRest0_eq, hsc]

set_option backward.isDefEq.respectTransparency.types false in
theorem run_main :
    θ_run defs (onTc (τ := τ) (main (F := F))) (s₀ m ρ)
      (fun r => Pipeline.RDat.FramePost (cfgs 0) (fun c => (dats m 0 c).toRRel outs? (Right m c)) (V m) r ∧ r.2.sem = fun _ => 0) :=
  Pipeline.RDat.θ_run_frame_track_shared (Q' := _) cfgs (0 : Fin 1) launch₀0 defs₀ Variants.none (fun c => (dats m 0 c).toRRel outs? (Right m c)) m ρ main
    (hbody := fun c => (body_obligation m c).toRRel) (hq := fun _ _ _ => rfl)
    (howed := fun _ _ => rfl) (V := V m) (hmain := hmain m Variants.none) (hA := A_eq m)
    (hin := fun c => by
      rw [scoped_eq]
      show _ ⊢ iprop(between m c 0 ∗ ∃ r, prngReg c r)
      unfold between
      iintro ⟨⟨%X, HS⟩, Hg⟩
      iframe
      iexists X
      isplitr
      · ipureintro; exact fun h => absurd rfl h
      · iexact HS)
    (hout := fun c => by
      rw [scoped_eq]
      show iprop(between m c 280 ∗ ∃ r, prngReg c r) ⊢ _
      unfold between
      iintro ⟨⟨%X, %hX, HS⟩, Hg⟩
      iframe
      iexists X
      iexact HS)

end Cert.KernelIdeal.Value
-- ==== Proof.Ideal.Arrays.lean ====
/- The two result arrays after the run. -/
module

public import proofs.«01_k».proof.Proof.Ideal.ValueRun
public import Idealize.ShloMosaic.Lib.Pipeline.ArrRel

@[expose] public section

set_option maxRecDepth 16384

noncomputable section

namespace Cert.KernelIdeal.Value

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg) (c : Dev nD)

/-- The array of codes. -/
def codesArr : Vec F S8192x8960 .fp8e4m3 := fun i =>
  codesAt (V m c main_v0) (weightOf m c ((i 1).val / 256)) ⟨(i 0).val / 1024, by have h : (i 0).val < 8192 := (i 0).isLt; omega⟩
    (ix2 ⟨(i 0).val % 1024, Nat.mod_lt _ (by decide)⟩ ⟨(i 1).val % 256, Nat.mod_lt _ (by decide)⟩)

/-- The array of scales. -/
def scalesArr : Vec F S70x2x4x8x128 .f32 := fun i =>
  scalesOfBlock m c ((i 0).val / 2) (ix5 ⟨(i 0).val % 2, Nat.mod_lt _ (by decide)⟩ ⟨(i 1).val, (i 1).isLt⟩ ⟨(i 2).val, (i 2).isLt⟩ ⟨(i 3).val, (i 3).isLt⟩
    ⟨(i 4).val, (i 4).isLt⟩)

theorem codesArr_at (k : Fin 8) (n : Nat) (a : S1024x256.Idx) (i : S8192x8960.Idx) (h0 : (i 0).val = 1024 * k.val + (a 0).val)
    (h1 : (i 1).val = 256 * n + (a 1).val) : codesArr m c i = codesAt (V m c main_v0) (weightOf m c n) k a := by
  have a0 : (a 0).val < 1024 := (a 0).isLt
  have a1 : (a 1).val < 256 := (a 1).isLt
  have e1 : (i 1).val / 256 = n := by omega
  have e2 : (⟨(i 0).val / 1024, by have h : (i 0).val < 8192 := (i 0).isLt; omega⟩ : Fin 8) = k := Fin.ext (by simp only; omega)
  have e3 : (ix2 ⟨(i 0).val % 1024, Nat.mod_lt _ (by decide)⟩ ⟨(i 1).val % 256, Nat.mod_lt _ (by decide)⟩ : S1024x256.Idx) = a := by
    funext d
    refine Fin.ext ?_
    match d with
    | 0 => show (i 0).val % 1024 = (a 0).val; omega
    | 1 => show (i 1).val % 256 = (a 1).val; omega
  unfold codesArr
  rw [e1, e2, e3]

theorem scalesArr_at (n : Nat) (a : S2x2x4x8x128.Idx) (i : S70x2x4x8x128.Idx) (h0 : (i 0).val = 2 * n + (a 0).val)
    (h1 : (i 1).val = (a 1).val) (h2 : (i 2).val = (a 2).val) (h3 : (i 3).val = (a 3).val) (h4 : (i 4).val = (a 4).val) :
    scalesArr m c i = scalesOfBlock m c n a := by
  have a0 : (a 0).val < 2 := (a 0).isLt
  have e1 : (i 0).val / 2 = n := by omega
  have e3 : (ix5 ⟨(i 0).val % 2, Nat.mod_lt _ (by decide)⟩ ⟨(i 1).val, (i 1).isLt⟩ ⟨(i 2).val, (i 2).isLt⟩ ⟨(i 3).val, (i 3).isLt⟩
    ⟨(i 4).val, (i 4).isLt⟩ : S2x2x4x8x128.Idx) = a := by
    funext d
    refine Fin.ext ?_
    match d with
    | 0 => show (i 0).val % 2 = (a 0).val; omega
    | 1 => exact h1
    | 2 => exact h2
    | 3 => exact h3
    | 4 => exact h4
  unfold scalesArr
  rw [e1, e3]

theorem codes_arr (dat : Dat τ (Elt F) Unit ℕ (UR sig nD τ) ℕ cfg0 c) (h : ∀ t, dat.after 6 t = codesOfStep m c t) : dat.arrAt 6 cfg0.N = codesArr m c := by
  refine dat.arrAt_eq_of_covers 6 _ (by decide +kernel) fun t _ y => ?_
  blk_simp
  rw [h]
  have h0 : ((win0_6.blk t).view.emb y 0).val = 1024 * (t.val % 8) + (y 0).val := by
    blk_simp [idx_val t]
    try omega
  have h1 : ((win0_6.blk t).view.emb y 1).val = 256 * (t.val / 8) + (y 1).val := by
    blk_simp [idx_val t]
    try omega
  exact (codesArr_at m c (grid0.coords t 1) (t.val / 8) y _ (by rw [coords_val]; exact h0) h1).symm

theorem scales_arr (dat : Dat τ (Elt F) Unit ℕ (UR sig nD τ) ℕ cfg0 c)
    (h : ∀ t : Fin cfg0.N, t.val % 8 = 7 → ∀ j, dat.after 7 t j = scalesOfBlock m c (t.val / 8) j) : dat.arrAt 7 cfg0.N = scalesArr m c := by
  refine dat.arrAt_eq_of_covers 7 _ (by decide +kernel) fun t hf y => ?_
  blk_simp
  rw [h _ ((flush0_7 t).mp hf)]
  refine (scalesArr_at m c (t.val / 8) y _ ?_ ?_ ?_ ?_ ?_).symm <;> (blk_simp [idx_val t]; try omega)

end Cert.KernelIdeal.Value
-- ==== Proof.Ideal.Results.lean ====
/- The run of the idealized kernel with its results and its arguments named. -/
module

public import proofs.«01_k».proof.Proof.Ideal.Arrays

@[expose] public section

set_option maxRecDepth 16384

noncomputable section

namespace Cert.KernelIdeal.Value

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

/-- The two result arrays, the arguments as they were, and every semaphore at zero. -/
theorem run :
    θ_run defs (onTc (τ := τ) (main (F := F))) ⟨m, fun _ => 0, ρ⟩ (fun r => (∀ c : Dev nD,
      r.2.mem ((c.tc : Thread nD τ).loc main_v3_0) = codesArr m c
      ∧ r.2.mem ((c.tc : Thread nD τ).loc main_v3_1) = scalesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
      obtain ⟨after, hl, hm⟩ := h.1.exists_exact c
      refine ⟨(hm 6).trans ?_, (hm 7).trans ?_,
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        (h.1.arr_in c 2 rfl).trans ((A_eq m c 2).trans (V_main_arg2 m c)),
        ((h.1 c).2 main_arg3 (Pipeline.mem_restRefs_of main_arg3 (by decide) (by decide))).trans (V_main_arg3 m c),
        (h.1.arr_in c 5 rfl).trans ((A_eq m c 5).trans (V_main_arg4 m c))⟩
      · refine codes_arr m c _ fun t => ?_
        exact Pipeline.Dat.toRRel_leaves (w := 6) (fgt := outs?) (dats m 0 c) rfl (hl 6 t (flush0_6 t))
      · refine scales_arr m c _ fun t ht j => ?_
        have hj1 : (j 1).val < 2 := (j 1).isLt
        have hj3 : (j 3).val < 8 := (j 3).isLt
        exact Pipeline.Dat.toRRel_leaves (w := 7) (fgt := outs?) (dats m 0 c) rfl (hl 7 t ((flush0_7 t).mpr ht)) j (by omega), h.2⟩) (run_main m ρ)

end Cert.KernelIdeal.Value
-- ==== Proof.Math.Entry.lean ====
/- What the kernel is launched on, as the arguments' entries. -/
module

public import proofs.«01_k».proof.Proof.Ideal.Results
public import Idealize.ShloMosaic.Lib.ValueLayout
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem

attribute [local instance] Cert.KernelIdeal.Gen.facts

variable (m : (ℓ : Loc nD τ sig) → Buf (Elt Ideal) ℓ) (c : Dev nD)

theorem rows_at {α : Type} (X : S16x512x1536.Idx → α) (h : S16x512x1536.ShapeCasts S8192x1536) (r : Fin 8192) (j : Fin 1536) :
    shapeCast S8192x1536 X h (ix2 r j) = X (ix3 ⟨r.val / 512, by omega⟩ ⟨r.val % 512, by omega⟩ j) := by
  refine shapeCast_apply X h _ _ ?_
  rw [Shape.rowMajor_val_two, Shape.rowMajor_val_three]
  simp [ix2, ix3]
  omega

theorem v0_at (r : Fin 8192) (j : Fin 1536) : V m c main_v0 (ix2 r j)
    = m ((c.tc : Thread nD τ).loc main_arg0) (ix3 ⟨r.val / 512, by omega⟩ ⟨r.val % 512, by omega⟩ j) := by
  entry_read
  exact rows_at _ _ r j

theorem v1_at (p : Fin 2) (r : Fin 768) (n : Fin 8960) : V m c main_v1 (ix3 p r n) = m ((c.tc : Thread nD τ).loc main_arg1) (ix3 r p n) := by
  entry_read
  pointwise

theorem v2_at (p : Fin 2) (r : Fin 96) (n : Fin 8960) : V m c main_v2 (ix3 p r n) = m ((c.tc : Thread nD τ).loc main_arg3) (ix3 r p n) := by
  entry_read
  pointwise

theorem arg2_eq : V m c main_arg2 = m ((c.tc : Thread nD τ).loc main_arg2) := by
  entry_read
  rfl

theorem arg4_eq : V m c main_arg4 = m ((c.tc : Thread nD τ).loc main_arg4) := by
  entry_read
  rfl

end Cert.KernelIdeal.Value
-- ==== Proof.Math.Results.lean ====
/- The kernel's codes and scales are the reference's. -/
module

public import proofs.«01_k».proof.Proof.Math.KernelQuant
public import proofs.«01_k».proof.Proof.Math.Bound
public import proofs.«01_k».proof.Proof.Math.Entry

@[expose] public section

set_option maxRecDepth 16384

noncomputable section

namespace Cert.KernelIdeal.Value

open Cert.KernelIdeal Cert.KernelIdeal.Gen Cert.Nibbles
open Cert.ReferenceIdeal (top clip invOf acts weights tops expos resultCodes resultScales)
open Idealize.ShloMosaic Idealize.ShloMosaic.TcCoe Idealize.SL.Sem

attribute [local instance] Cert.KernelIdeal.Gen.facts Cert.ReferenceIdeal.Gen.facts

section Blocks

variable (X0 : FVec Ideal S16x512x1536 .bf16) (X1 : IVec S768x2x8960 8) (X2 : FVec Ideal S96x2x8960 .bf16) (X3 : IVec S96x2x8960 8) (X4 : IVec S140x768x128 32)
  (A0 : Vec Ideal S8192x1536 .bf16) (A1 : Vec Ideal S2x768x8960 .i8) (A3 : Vec Ideal S2x96x8960 .i8)
  (h0 : ∀ (r : Fin 8192) j, A0 (ix2 r j) = X0 (ix3 ⟨r.val / 512, by omega⟩ ⟨r.val % 512, by omega⟩ j))
  (h1 : ∀ p r n, A1 (ix3 p r n) = X1 (ix3 r p n)) (h3 : ∀ p g n, A3 (ix3 p g n) = X3 (ix3 g p n)) (hz : ∀ i, (X3 i).toNat ≤ 128)

/-- The weights of a column block. -/
def blockWeight (n : Nat) : Vec Ideal S1536x512 .bf16 :=
  weight (packedBlk A1 n) (scaleBlk (F := Ideal) X2 n) (zeroBlk A3 n) (outBlk (F := Ideal) X4 n) (outBlk (F := Ideal) X4 (n + 35))

include h0 h1 h3 hz

/-- A row's largest absolute value over 448 is the reference's. -/
theorem top_eq (n : Fin 35) (k : Fin 8) (m : Fin 4) (c : Fin 2) (a : Fin 256) :
    top (fun l => hOf A0 (blockWeight X2 X4 A1 A3 n.val) k m c (ix2 a l))
      = tops (F := Ideal) (acts X0 (weights X1 X2 X3 X4)) (ix3 ⟨(1024 * k.val + 256 * m.val + a.val) / 512, by omega⟩
        ⟨(1024 * k.val + 256 * m.val + a.val) % 512, by omega⟩ ⟨2 * n.val + c.val, by omega⟩) := by
  rw [Cert.ReferenceIdeal.tops_at]
  refine congrArg top (funext fun l => ?_)
  have e : (⟨256 * n.val + 128 * c.val + l.val, by omega⟩ : Fin 8960) = ⟨128 * (2 * n.val + c.val) + l.val, by omega⟩ := Fin.ext (by simp only; omega)
  refine (hOf_eq X0 X1 X2 X3 X4 A0 A1 A3 h0 h1 h3 hz n k m c a l).trans ?_
  rw [e]

variable (hb : ∀ i, max (acts (F := Ideal) X0 (weights X1 X2 X3 X4) i : EReal) (-(acts (F := Ideal) X0 (weights X1 X2 X3 X4) i : EReal)) ≤ Ideal.ofBits .f32 0x7F7FFFFF#32)

include hb

/-- The scale and its inverse are the reference's. -/
theorem quant_eq (n : Fin 35) (k : Fin 8) (m : Fin 4) (c : Fin 2) (a : Fin 256) :
    Ideal.ofBits .f32 (Cert.Ladder.expo (top (fun l => hOf A0 (blockWeight X2 X4 A1 A3 n.val) k m c (ix2 a l))) + 8388608#32)
      = Cert.ReferenceIdeal.scaleOf (expos (tops (F := Ideal) (acts X0 (weights X1 X2 X3 X4))) (ix3 ⟨(1024 * k.val + 256 * m.val + a.val) / 512, by omega⟩
        ⟨(1024 * k.val + 256 * m.val + a.val) % 512, by omega⟩ ⟨2 * n.val + c.val, by omega⟩))
    ∧ Ideal.ofBits .f32 (2122317824#32 - Cert.Ladder.expo (top (fun l => hOf A0 (blockWeight X2 X4 A1 A3 n.val) k m c (ix2 a l))))
      = invOf (expos (tops (F := Ideal) (acts X0 (weights X1 X2 X3 X4))) (ix3 ⟨(1024 * k.val + 256 * m.val + a.val) / 512, by omega⟩
        ⟨(1024 * k.val + 256 * m.val + a.val) % 512, by omega⟩ ⟨2 * n.val + c.val, by omega⟩)) := by
  rw [top_eq X0 X1 X2 X3 X4 A0 A1 A3 h0 h1 h3 hz, Cert.ReferenceIdeal.expos_at, Cert.ReferenceIdeal.tops_at]
  obtain ⟨r, hr, hr0, hr1⟩ := Cert.ReferenceIdeal.top_real _ fun l => hb (ix3 ⟨(1024 * k.val + 256 * m.val + a.val) / 512, by omega⟩
    ⟨(1024 * k.val + 256 * m.val + a.val) % 512, by omega⟩ ⟨128 * (2 * n.val + c.val) + l.val, by omega⟩)
  rw [hr]
  exact Cert.Ladder.quant hr0 hr1

/-- The codes of a half row block are the reference's. -/
theorem codes_eq (n : Fin 35) (k : Fin 8) (m : Fin 4) (c : Fin 2) (a : Fin 256) (b : Fin 128) (r : Fin 8192) (j : Fin 8960)
    (er : r.val = 1024 * k.val + 256 * m.val + a.val) (ej : j.val = 256 * n.val + 128 * c.val + b.val) :
    codes (hOf A0 (blockWeight X2 X4 A1 A3 n.val) k m c) (ix2 a b) = resultCodes (F := Ideal) (acts X0 (weights X1 X2 X3 X4)) (ix2 r j) := by
  obtain ⟨r, hr⟩ := r
  obtain ⟨j, hj⟩ := j
  simp only at er ej
  subst er
  subst ej
  have e : (⟨(256 * n.val + 128 * c.val + b.val) / 128, by omega⟩ : Fin 70) = ⟨2 * n.val + c.val, by omega⟩ := Fin.ext (by simp only; omega)
  rw [codes_at, Cert.ReferenceIdeal.resultCodes_at, (quant_eq X0 X1 X2 X3 X4 A0 A1 A3 h0 h1 h3 hz hb n k m c a).2]
  refine congrArg₂ clip (hOf_eq X0 X1 X2 X3 X4 A0 A1 A3 h0 h1 h3 hz n k m c a b) ?_
  exact congrArg (fun g => invOf (expos (tops (F := Ideal) (acts X0 (weights X1 X2 X3 X4))) (ix3 ⟨(1024 * k.val + 256 * m.val + a.val) / 512, by omega⟩
    ⟨(1024 * k.val + 256 * m.val + a.val) % 512, by omega⟩ g))) e.symm

/-- The scales of 128 rows are the reference's. -/
theorem scales_eq (n : Fin 35) (k : Fin 8) (m : Fin 4) (c r : Fin 2) (l : Fin 128) (i0 : Fin 70) (i1 : Fin 2) (i2 : Fin 4) (i3 : Fin 8)
    (e0 : i0.val = 2 * n.val + c.val) (e1 : k.val = 4 * i1.val + i3.val / 2) (e2 : m.val = 2 * (i3.val % 2) + i2.val / 2) (e3 : r.val = i2.val % 2) :
    scaleRow r (scales (hOf A0 (blockWeight X2 X4 A1 A3 n.val) k m c)) (ix5 0 0 0 0 l)
      = resultScales (F := Ideal) (acts X0 (weights X1 X2 X3 X4)) (ix5 i0 i1 i2 i3 l) := by
  rw [scaleRow_at, scales_at, Cert.ReferenceIdeal.resultScales_at, (quant_eq X0 X1 X2 X3 X4 A0 A1 A3 h0 h1 h3 hz hb n k m c _).1]
  refine congrArg (fun y => Cert.ReferenceIdeal.scaleOf (expos (tops (F := Ideal) (acts X0 (weights X1 X2 X3 X4))) y)) ?_
  have f0 : (⟨(1024 * k.val + 256 * m.val + (128 * r.val + l.val)) / 512, by omega⟩ : Fin 16) = ⟨8 * i1.val + i3.val, by omega⟩ := Fin.ext (by simp only; omega)
  have f1 : (⟨(1024 * k.val + 256 * m.val + (128 * r.val + l.val)) % 512, by omega⟩ : Fin 512) = ⟨128 * i2.val + l.val, by omega⟩ := Fin.ext (by simp only; omega)
  have f2 : (⟨2 * n.val + c.val, by omega⟩ : Fin 70) = i0 := Fin.ext e0.symm
  simp only
  rw [f0, f1, f2]

end Blocks

variable (m : (ℓ : Loc nD τ sig) → Buf (Elt Ideal) ℓ) (c : Dev nD)

/-- The reference's silu(gate) * up on the kernel's arguments. -/
def actsOf : FVec Ideal Cert.ReferenceIdeal.S16x512x8960 .f32 :=
  acts (F := Ideal) (m ((c.tc : Thread nD τ).loc main_arg0)) (weights (m ((c.tc : Thread nD τ).loc main_arg1)) (m ((c.tc : Thread nD τ).loc main_arg2))
    (m ((c.tc : Thread nD τ).loc main_arg3)) (m ((c.tc : Thread nD τ).loc main_arg4)))

theorem weightOf_eq (n : Nat) : weightOf m c n
    = blockWeight (m ((c.tc : Thread nD τ).loc main_arg2)) (m ((c.tc : Thread nD τ).loc main_arg4)) (V m c main_v1) (V m c main_v2) n := by
  unfold weightOf blockWeight
  rw [arg2_eq, arg4_eq]

variable (hz : ∀ i, BitVec.toNat (m ((c.tc : Thread nD τ).loc main_arg3) i : BitVec 8) ≤ 128)
  (hb : ∀ i, max (actsOf m c i : EReal) (-(actsOf m c i : EReal)) ≤ Ideal.ofBits .f32 0x7F7FFFFF#32)

include hz hb

theorem codesArr_eq : codesArr m c = resultCodes (F := Ideal) (actsOf m c) := by
  funext i
  obtain ⟨r, j, rfl⟩ : ∃ r j, i = (ix2 r j : S8192x8960.Idx) := ⟨i 0, i 1, eq_ix2 i⟩
  rw [codesArr_at m c ⟨r.val / 1024, by omega⟩ (j.val / 256) (ix2 ⟨r.val % 1024, by omega⟩ ⟨j.val % 256, by omega⟩) _
      (by show r.val = 1024 * (r.val / 1024) + r.val % 1024; omega) (by show j.val = 256 * (j.val / 256) + j.val % 256; omega),
    codesAt_eq _ _ _ _ ⟨r.val % 1024 / 256, by omega⟩ ⟨j.val % 256 / 128, by omega⟩ (ix2 ⟨r.val % 256, by omega⟩ ⟨j.val % 128, by omega⟩)
      (by show r.val % 1024 = 256 * (r.val % 1024 / 256) + r.val % 256; omega) (by show j.val % 256 = 128 * (j.val % 256 / 128) + j.val % 128; omega),
    weightOf_eq]
  exact codes_eq _ _ _ _ _ _ _ _ (v0_at m c) (v1_at m c) (v2_at m c) hz hb ⟨j.val / 256, by omega⟩
    ⟨r.val / 1024, by omega⟩ ⟨r.val % 1024 / 256, by omega⟩ ⟨j.val % 256 / 128, by omega⟩ ⟨r.val % 256, by omega⟩ ⟨j.val % 128, by omega⟩ r j
    (by show r.val = 1024 * (r.val / 1024) + 256 * (r.val % 1024 / 256) + r.val % 256; omega)
    (by show j.val = 256 * (j.val / 256) + 128 * (j.val % 256 / 128) + j.val % 128; omega)

theorem scalesArr_eq : scalesArr m c = resultScales (F := Ideal) (actsOf m c) := by
  funext i
  obtain ⟨i0, i1, i2, i3, l, rfl⟩ : ∃ i0 i1 i2 i3 l, i = (ix5 i0 i1 i2 i3 l : S70x2x4x8x128.Idx) := ⟨i 0, i 1, i 2, i 3, i 4, eq_ix5 i⟩
  rw [scalesArr_at m c (i0.val / 2) (ix5 ⟨i0.val % 2, by omega⟩ i1 i2 i3 l) _ (by show i0.val = 2 * (i0.val / 2) + i0.val % 2; omega) rfl rfl rfl rfl]
  unfold scalesOfBlock scalesAt
  rw [weightOf_eq]
  exact scales_eq _ _ _ _ _ _ _ _ (v0_at m c) (v1_at m c) (v2_at m c) hz hb ⟨i0.val / 2, by omega⟩
    ⟨4 * i1.val + i3.val / 2, by omega⟩ ⟨2 * (i3.val % 2) + i2.val / 2, by omega⟩ ⟨i0.val % 2, by omega⟩ ⟨i2.val % 2, by omega⟩ l i0 i1 i2 i3
    (by show i0.val = 2 * (i0.val / 2) + i0.val % 2; omega) rfl rfl rfl

end Cert.KernelIdeal.Value
-- ==== Proof.lean ====
/- The claims, each from the module that proves it. -/
module

public import proofs.«01_k».proof.Defs
public import proofs.«01_k».proof.Proof.FrameRun
public import proofs.«01_k».proof.Proof.Ideal.FrameRun
public import proofs.«01_k».proof.Proof.Gen.ReferenceIdeal
public import proofs.«01_k».proof.Proof.Gen.Pre_in_range
public import proofs.«01_k».proof.Proof.Ref.Run
public import proofs.«01_k».proof.Proof.Math.InRange
public import proofs.«01_k».proof.Proof.Math.Results
public import Idealize.ShloMosaic.Lib.Bf16Pair
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The rule that reads a word as two bf16 rows, at the two shapes the kernel uses it. -/
theorem preserves : preserves_Kernel_KernelIdeal :=
  ⟨IdealRules.bf16_pair.statement _ _, IdealRules.bf16_pair.statement _ _⟩

/-- The reference runs to its end and leaves its arguments as they were; it declares no semaphore. -/
theorem frame_R : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.run m g)

/-- The kernel's two results are the reference's. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hagree
  have hr := fun c => Cert.ReferenceIdeal.in_range _ _ _ _ _ (hpre c)
  refine ⟨fun c => Cert.KernelIdeal.Value.codesArr m c, fun c => Cert.KernelIdeal.Value.scalesArr m c, ?_, ?_⟩
  · exact (θ_run _ _ _).mono (fun r h => h.1) (Cert.KernelIdeal.Value.run m g)
  · refine (θ_run _ _ _).mono (fun r h c => ?_) (Cert.ReferenceIdeal.run m' g')
    have hc := h c
    obtain ⟨a0, a1, a2, a3, a4⟩ := hagree c
    have e : Cert.ReferenceIdeal.actsOf m' c = Cert.KernelIdeal.Value.actsOf m c := by
      unfold Cert.ReferenceIdeal.actsOf Cert.KernelIdeal.Value.actsOf
      rw [a0, a1, a2, a3, a4]
    refine ⟨hc.1.trans ?_, hc.2.1.trans ?_, hc.2.2⟩
    · rw [e]
      exact (Cert.KernelIdeal.Value.codesArr_eq m c (hr c).1 (hr c).2).symm
    · rw [e]
      exact (Cert.KernelIdeal.Value.scalesArr_eq m c (hr c).1 (hr c).2).symm

theorem claim : Cert.Claim := ⟨Cert.Kernel.Gen.facts, Cert.KernelIdeal.Gen.facts, Cert.ReferenceIdeal.Gen.facts, Cert.Pre_in_range.Gen.facts,
  fun m g _ => Cert.Kernel.Run.frame m g, fun m g _ => Cert.KernelIdeal.Run.frame m g, fun m g _ => Cert.KernelIdeal.Run.frame m g,
  frame_R, fun m g _ => frame_R m g trivial, preserves, algebraic⟩

end Cert.Proof

end
